-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 512]⟩ ⟨3, ![16, 8192, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x512 : Shape := ⟨3, ![1, 8192, 512]⟩
abbrev S512 : Shape := ⟨1, ![512]⟩
abbrev S512x512 : Shape := ⟨2, ![512, 512]⟩
abbrev S2x256x256 : Shape := ⟨3, ![2, 256, 256]⟩
abbrev S15x512x256 : Shape := ⟨3, ![15, 512, 256]⟩
abbrev S15x2 : Shape := ⟨2, ![15, 2]⟩
abbrev S_ : Shape := ⟨0, ![]⟩
abbrev S1x256x256 : Shape := ⟨3, ![1, 256, 256]⟩
abbrev S256x256 : Shape := ⟨2, ![256, 256]⟩
abbrev S1x1 : Shape := ⟨2, ![1, 1]⟩
abbrev S256 : Shape := ⟨1, ![256]⟩
abbrev S256x1 : Shape := ⟨2, ![256, 1]⟩
abbrev S1x512 : Shape := ⟨2, ![1, 512]⟩
abbrev S1x256 : Shape := ⟨2, ![1, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x8192x512, .f32⟩
  | .hbm, ⟨1, _⟩ => ⟨S512, .f32⟩
  | .hbm, ⟨2, _⟩ => ⟨S512x512, .f32⟩
  | .local _ .vmem, ⟨0, _⟩ => ⟨S1x8192x512, .f32⟩
  | .local _ .vmem, ⟨1, _⟩ => ⟨S512, .f32⟩
  | .local _ .vmem, ⟨2, _⟩ => ⟨S512x512, .f32⟩
  | .local _ .vmem, ⟨3, _⟩ => ⟨S2x256x256, .f32⟩
  | .local _ .vmem, ⟨4, _⟩ => ⟨S2x256x256, .f32⟩
  | .local _ .vmem, ⟨5, _⟩ => ⟨S15x512x256, .f32⟩
  | .local _ .vmem, ⟨6, _⟩ => ⟨S15x512x256, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_827 : BitVec 32 := 1#32
  let v1486 : BitVec 32 := Scalar.muli v131 c1_i32_827
  let v1487 : BitVec 32 := Scalar.addi c0_i32_828 v1486
  v1487.toNat
def k0_dev2 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_830 : BitVec 32 := 1#32
  let v1488 : BitVec 32 := Scalar.muli v172 c1_i32_830
  let v1489 : BitVec 32 := Scalar.addi c0_i32_831 v1488
  v1489.toNat
def k0_off1 (d0 : Dev nD) (c31_i32 : BitVec 32) (c0_i32_833 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let v173 : BitVec 32 := Scalar.addi v89 c31_i32
  let c16_i32_83 : BitVec 32 := 16#32
  let c0_i32_84 : BitVec 32 := 0#32
  let v174 : BitVec 1 := Scalar.cmpi .eq c16_i32_83 c0_i32_84
  let c1_i32_85 : BitVec 32 := 1#32
  let v175 : BitVec 32 := Scalar.select v174 c1_i32_85 c16_i32_83
  let v176 : BitVec 32 := Scalar.remsi v173 v175
  let c0_i32_87 : BitVec 32 := 0#32
  let v178 : BitVec 1 := Scalar.cmpi .slt v176 c0_i32_87
  let c0_i32_88 : BitVec 32 := 0#32
  let v179 : BitVec 1 := Scalar.cmpi .slt v175 c0_i32_88
  let v180 : BitVec 1 := Scalar.xori v178 v179
  let c0_i32_86 : BitVec 32 := 0#32
  let v177 : BitVec 1 := Scalar.cmpi .ne v176 c0_i32_86
  let v181 : BitVec 1 := Scalar.andi v180 v177
  let v182 : BitVec 32 := Scalar.addi v176 v175
  let v183 : BitVec 32 := Scalar.select v181 v182 v176
  let c0_i32_90 : BitVec 32 := 0#32
  let v185 : BitVec 1 := Scalar.cmpi .sgt v183 c0_i32_90
  let v186 : BitVec 32 := Scalar.extui v185
  let c0_i32_91 : BitVec 32 := 0#32
  let v187 : BitVec 1 := Scalar.cmpi .slt v183 c0_i32_91
  let v188 : BitVec 32 := Scalar.extui v187
  let v189 : BitVec 32 := Scalar.subi v186 v188
  let c4_i32_89 : BitVec 32 := 4#32
  let c0_i32_92 : BitVec 32 := 0#32
  let v190 : BitVec 1 := Scalar.cmpi .sgt c4_i32_89 c0_i32_92
  let v191 : BitVec 32 := Scalar.extui v190
  let c0_i32_93 : BitVec 32 := 0#32
  let v192 : BitVec 1 := Scalar.cmpi .slt c4_i32_89 c0_i32_93
  let v193 : BitVec 32 := Scalar.extui v192
  let v194 : BitVec 32 := Scalar.subi v191 v193
  let v195 : BitVec 1 := Scalar.cmpi .ne v189 v194
  let v196 : BitVec 32 := Scalar.remsi v183 c4_i32_89
  let c0_i32_94 : BitVec 32 := 0#32
  let v197 : BitVec 1 := Scalar.cmpi .ne v196 c0_i32_94
  let v198 : BitVec 1 := Scalar.andi v195 v197
  let v184 : BitVec 32 := Scalar.divsi v183 c4_i32_89
  let c1_i32_95 : BitVec 32 := 1#32
  let v199 : BitVec 32 := Scalar.subi v184 c1_i32_95
  let v200 : BitVec 32 := Scalar.select v198 v199 v184
  let c2_i32_105 : BitVec 32 := 2#32
  let v212 : BitVec 1 := Scalar.cmpi .slt v200 c2_i32_105
  let c0_i32_96 : BitVec 32 := 0#32
  let v201 : BitVec 1 := Scalar.cmpi .eq v200 c0_i32_96
  let c4_i32_97 : BitVec 32 := 4#32
  let v202 : BitVec 32 := Scalar.muli c4_i32_97 v183
  let c29_i32_99 : BitVec 32 := 29#32
  let c4_i32_98 : BitVec 32 := 4#32
  let v203 : BitVec 32 := Scalar.muli c4_i32_98 v183
  let v204 : BitVec 32 := Scalar.subi c29_i32_99 v203
  let v205 : BitVec 32 := Scalar.select v201 v202 v204
  let c2_i32_100 : BitVec 32 := 2#32
  let v206 : BitVec 1 := Scalar.cmpi .eq v200 c2_i32_100
  let c4_i32_101 : BitVec 32 := 4#32
  let v207 : BitVec 32 := Scalar.muli c4_i32_101 v183
  let c30_i32_102 : BitVec 32 := 30#32
  let v208 : BitVec 32 := Scalar.subi v207 c30_i32_102
  let c63_i32_104 : BitVec 32 := 63#32
  let c4_i32_103 : BitVec 32 := 4#32
  let v209 : BitVec 32 := Scalar.muli c4_i32_103 v183
  let v210 : BitVec 32 := Scalar.subi c63_i32_104 v209
  let v211 : BitVec 32 := Scalar.select v206 v208 v210
  let v213 : BitVec 32 := Scalar.select v212 v205 v211
  let c512_i32 : BitVec 32 := 512#32
  let v1490 : BitVec 32 := Scalar.muli v213 c512_i32
  let v1491 : BitVec 32 := Scalar.addi v1490 c0_i32_833
  let v1492 : Index := Scalar.indexCast v1491
  let c0_834 : Index := 0#32
  ![0, v1492.toNat, 0]
def k0_off2 (d0 : Dev nD) (c1_i32_454 : BitVec 32) (c0_i32_839 : BitVec 32) : Fin 3 → Nat :=
  let c0_840 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let v829 : BitVec 32 := Scalar.addi v89 c1_i32_454
  let c16_i32_455 : BitVec 32 := 16#32
  let c0_i32_456 : BitVec 32 := 0#32
  let v830 : BitVec 1 := Scalar.cmpi .eq c16_i32_455 c0_i32_456
  let c1_i32_457 : BitVec 32 := 1#32
  let v831 : BitVec 32 := Scalar.select v830 c1_i32_457 c16_i32_455
  let v832 : BitVec 32 := Scalar.remsi v829 v831
  let c0_i32_459 : BitVec 32 := 0#32
  let v834 : BitVec 1 := Scalar.cmpi .slt v832 c0_i32_459
  let c0_i32_460 : BitVec 32 := 0#32
  let v835 : BitVec 1 := Scalar.cmpi .slt v831 c0_i32_460
  let v836 : BitVec 1 := Scalar.xori v834 v835
  let c0_i32_458 : BitVec 32 := 0#32
  let v833 : BitVec 1 := Scalar.cmpi .ne v832 c0_i32_458
  let v837 : BitVec 1 := Scalar.andi v836 v833
  let v838 : BitVec 32 := Scalar.addi v832 v831
  let v839 : BitVec 32 := Scalar.select v837 v838 v832
  let c0_i32_462 : BitVec 32 := 0#32
  let v841 : BitVec 1 := Scalar.cmpi .sgt v839 c0_i32_462
  let v842 : BitVec 32 := Scalar.extui v841
  let c0_i32_463 : BitVec 32 := 0#32
  let v843 : BitVec 1 := Scalar.cmpi .slt v839 c0_i32_463
  let v844 : BitVec 32 := Scalar.extui v843
  let v845 : BitVec 32 := Scalar.subi v842 v844
  let c4_i32_461 : BitVec 32 := 4#32
  let c0_i32_464 : BitVec 32 := 0#32
  let v846 : BitVec 1 := Scalar.cmpi .sgt c4_i32_461 c0_i32_464
  let v847 : BitVec 32 := Scalar.extui v846
  let c0_i32_465 : BitVec 32 := 0#32
  let v848 : BitVec 1 := Scalar.cmpi .slt c4_i32_461 c0_i32_465
  let v849 : BitVec 32 := Scalar.extui v848
  let v850 : BitVec 32 := Scalar.subi v847 v849
  let v851 : BitVec 1 := Scalar.cmpi .ne v845 v850
  let v852 : BitVec 32 := Scalar.remsi v839 c4_i32_461
  let c0_i32_466 : BitVec 32 := 0#32
  let v853 : BitVec 1 := Scalar.cmpi .ne v852 c0_i32_466
  let v854 : BitVec 1 := Scalar.andi v851 v853
  let v840 : BitVec 32 := Scalar.divsi v839 c4_i32_461
  let c1_i32_467 : BitVec 32 := 1#32
  let v855 : BitVec 32 := Scalar.subi v840 c1_i32_467
  let v856 : BitVec 32 := Scalar.select v854 v855 v840
  let c2_i32_477 : BitVec 32 := 2#32
  let v868 : BitVec 1 := Scalar.cmpi .slt v856 c2_i32_477
  let c0_i32_468 : BitVec 32 := 0#32
  let v857 : BitVec 1 := Scalar.cmpi .eq v856 c0_i32_468
  let c4_i32_469 : BitVec 32 := 4#32
  let v858 : BitVec 32 := Scalar.muli c4_i32_469 v839
  let c29_i32_471 : BitVec 32 := 29#32
  let c4_i32_470 : BitVec 32 := 4#32
  let v859 : BitVec 32 := Scalar.muli c4_i32_470 v839
  let v860 : BitVec 32 := Scalar.subi c29_i32_471 v859
  let v861 : BitVec 32 := Scalar.select v857 v858 v860
  let c2_i32_472 : BitVec 32 := 2#32
  let v862 : BitVec 1 := Scalar.cmpi .eq v856 c2_i32_472
  let c4_i32_473 : BitVec 32 := 4#32
  let v863 : BitVec 32 := Scalar.muli c4_i32_473 v839
  let c30_i32_474 : BitVec 32 := 30#32
  let v864 : BitVec 32 := Scalar.subi v863 c30_i32_474
  let c63_i32_476 : BitVec 32 := 63#32
  let c4_i32_475 : BitVec 32 := 4#32
  let v865 : BitVec 32 := Scalar.muli c4_i32_475 v839
  let v866 : BitVec 32 := Scalar.subi c63_i32_476 v865
  let v867 : BitVec 32 := Scalar.select v862 v864 v866
  let v869 : BitVec 32 := Scalar.select v868 v861 v867
  let c512_i32_838 : BitVec 32 := 512#32
  let v1498 : BitVec 32 := Scalar.muli v869 c512_i32_838
  let v1499 : BitVec 32 := Scalar.addi v1498 c0_i32_839
  let v1500 : Index := Scalar.indexCast v1499
  let c256 : Index := 256#32
  ![0, v1500.toNat, 256]
def k0_dev3 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_850 : BitVec 32 := 1#32
  let v1506 : BitVec 32 := Scalar.muli v172 c1_i32_850
  let v1507 : BitVec 32 := Scalar.addi c0_i32_851 v1506
  v1507.toNat
def k0_dev4 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_862 : BitVec 32 := 1#32
  let v1516 : BitVec 32 := Scalar.muli v131 c1_i32_862
  let v1517 : BitVec 32 := Scalar.addi c0_i32_863 v1516
  v1517.toNat
def k0_dev5 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_886 : BitVec 32 := 1#32
  let v1542 : BitVec 32 := Scalar.muli v172 c1_i32_886
  let v1543 : BitVec 32 := Scalar.addi c0_i32_887 v1542
  v1543.toNat
def k0_dev6 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_898 : BitVec 32 := 1#32
  let v1552 : BitVec 32 := Scalar.muli v131 c1_i32_898
  let v1553 : BitVec 32 := Scalar.addi c0_i32_899 v1552
  v1553.toNat
def k0_dev7 (d0 : Dev nD) : Nat :=
  let c0_i32_944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_943 : BitVec 32 := 1#32
  let v1587 : BitVec 32 := Scalar.muli v172 c1_i32_943
  let v1588 : BitVec 32 := Scalar.addi c0_i32_944 v1587
  v1588.toNat
def k0_dev8 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_988 : BitVec 32 := 1#32
  let v1622 : BitVec 32 := Scalar.muli v131 c1_i32_988
  let v1623 : BitVec 32 := Scalar.addi c0_i32_989 v1622
  v1623.toNat
def k0_dev9 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1033 : BitVec 32 := 1#32
  let v1657 : BitVec 32 := Scalar.muli v172 c1_i32_1033
  let v1658 : BitVec 32 := Scalar.addi c0_i32_1034 v1657
  v1658.toNat
def k0_dev10 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1078 : BitVec 32 := 1#32
  let v1692 : BitVec 32 := Scalar.muli v131 c1_i32_1078
  let v1693 : BitVec 32 := Scalar.addi c0_i32_1079 v1692
  v1693.toNat
def k0_dev11 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1123 : BitVec 32 := 1#32
  let v1727 : BitVec 32 := Scalar.muli v172 c1_i32_1123
  let v1728 : BitVec 32 := Scalar.addi c0_i32_1124 v1727
  v1728.toNat
def k0_dev12 (d0 : Dev nD) : Nat :=
  let c0_i32_1169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1168 : BitVec 32 := 1#32
  let v1762 : BitVec 32 := Scalar.muli v131 c1_i32_1168
  let v1763 : BitVec 32 := Scalar.addi c0_i32_1169 v1762
  v1763.toNat
def k0_dev13 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1213 : BitVec 32 := 1#32
  let v1797 : BitVec 32 := Scalar.muli v172 c1_i32_1213
  let v1798 : BitVec 32 := Scalar.addi c0_i32_1214 v1797
  v1798.toNat
def k0_dev14 (d0 : Dev nD) : Nat :=
  let c0_i32_1259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1258 : BitVec 32 := 1#32
  let v1832 : BitVec 32 := Scalar.muli v131 c1_i32_1258
  let v1833 : BitVec 32 := Scalar.addi c0_i32_1259 v1832
  v1833.toNat
def k0_dev15 (d0 : Dev nD) : Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1302 : BitVec 32 := 1#32
  let v1867 : BitVec 32 := Scalar.muli v172 c1_i32_1302
  let v1868 : BitVec 32 := Scalar.addi c0_i32_1303 v1867
  v1868.toNat
def k0_dev16 (d0 : Dev nD) : Nat :=
  let c0_i32_1348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1347 : BitVec 32 := 1#32
  let v1902 : BitVec 32 := Scalar.muli v131 c1_i32_1347
  let v1903 : BitVec 32 := Scalar.addi c0_i32_1348 v1902
  v1903.toNat
def k0_dev17 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1392 : BitVec 32 := 1#32
  let v1937 : BitVec 32 := Scalar.muli v172 c1_i32_1392
  let v1938 : BitVec 32 := Scalar.addi c0_i32_1393 v1937
  v1938.toNat
def k0_dev18 (d0 : Dev nD) : Nat :=
  let c0_i32_1438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1437 : BitVec 32 := 1#32
  let v1972 : BitVec 32 := Scalar.muli v131 c1_i32_1437
  let v1973 : BitVec 32 := Scalar.addi c0_i32_1438 v1972
  v1973.toNat
def k0_dev19 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1481 : BitVec 32 := 1#32
  let v2007 : BitVec 32 := Scalar.muli v172 c1_i32_1481
  let v2008 : BitVec 32 := Scalar.addi c0_i32_1482 v2007
  v2008.toNat
def k0_dev20 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1526 : BitVec 32 := 1#32
  let v2042 : BitVec 32 := Scalar.muli v131 c1_i32_1526
  let v2043 : BitVec 32 := Scalar.addi c0_i32_1527 v2042
  v2043.toNat
def k0_dev21 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1571 : BitVec 32 := 1#32
  let v2077 : BitVec 32 := Scalar.muli v172 c1_i32_1571
  let v2078 : BitVec 32 := Scalar.addi c0_i32_1572 v2077
  v2078.toNat
def k0_dev22 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1616 : BitVec 32 := 1#32
  let v2112 : BitVec 32 := Scalar.muli v131 c1_i32_1616
  let v2113 : BitVec 32 := Scalar.addi c0_i32_1617 v2112
  v2113.toNat
def k0_dev23 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1660 : BitVec 32 := 1#32
  let v2147 : BitVec 32 := Scalar.muli v172 c1_i32_1660
  let v2148 : BitVec 32 := Scalar.addi c0_i32_1661 v2147
  v2148.toNat
def k0_dev24 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1705 : BitVec 32 := 1#32
  let v2182 : BitVec 32 := Scalar.muli v131 c1_i32_1705
  let v2183 : BitVec 32 := Scalar.addi c0_i32_1706 v2182
  v2183.toNat
def k0_dev25 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1750 : BitVec 32 := 1#32
  let v2217 : BitVec 32 := Scalar.muli v172 c1_i32_1750
  let v2218 : BitVec 32 := Scalar.addi c0_i32_1751 v2217
  v2218.toNat
def k0_dev26 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1795 : BitVec 32 := 1#32
  let v2252 : BitVec 32 := Scalar.muli v131 c1_i32_1795
  let v2253 : BitVec 32 := Scalar.addi c0_i32_1796 v2252
  v2253.toNat
def k0_dev27 (d0 : Dev nD) : Nat :=
  let c0_i32_1840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1839 : BitVec 32 := 1#32
  let v2287 : BitVec 32 := Scalar.muli v172 c1_i32_1839
  let v2288 : BitVec 32 := Scalar.addi c0_i32_1840 v2287
  v2288.toNat
def k0_dev28 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1884 : BitVec 32 := 1#32
  let v2322 : BitVec 32 := Scalar.muli v131 c1_i32_1884
  let v2323 : BitVec 32 := Scalar.addi c0_i32_1885 v2322
  v2323.toNat
def k0_dev29 (d0 : Dev nD) : Nat :=
  let c0_i32_1930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_1929 : BitVec 32 := 1#32
  let v2357 : BitVec 32 := Scalar.muli v172 c1_i32_1929
  let v2358 : BitVec 32 := Scalar.addi c0_i32_1930 v2357
  v2358.toNat
def k0_dev30 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_1974 : BitVec 32 := 1#32
  let v2392 : BitVec 32 := Scalar.muli v131 c1_i32_1974
  let v2393 : BitVec 32 := Scalar.addi c0_i32_1975 v2392
  v2393.toNat
def k0_dev31 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2018 : BitVec 32 := 1#32
  let v2427 : BitVec 32 := Scalar.muli v172 c1_i32_2018
  let v2428 : BitVec 32 := Scalar.addi c0_i32_2019 v2427
  v2428.toNat
def k0_dev32 (d0 : Dev nD) : Nat :=
  let c0_i32_2064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2063 : BitVec 32 := 1#32
  let v2462 : BitVec 32 := Scalar.muli v131 c1_i32_2063
  let v2463 : BitVec 32 := Scalar.addi c0_i32_2064 v2462
  v2463.toNat
def k0_dev33 (d0 : Dev nD) : Nat :=
  let c0_i32_2109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2108 : BitVec 32 := 1#32
  let v2497 : BitVec 32 := Scalar.muli v172 c1_i32_2108
  let v2498 : BitVec 32 := Scalar.addi c0_i32_2109 v2497
  v2498.toNat
def k0_dev34 (d0 : Dev nD) : Nat :=
  let c0_i32_2154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2153 : BitVec 32 := 1#32
  let v2532 : BitVec 32 := Scalar.muli v131 c1_i32_2153
  let v2533 : BitVec 32 := Scalar.addi c0_i32_2154 v2532
  v2533.toNat
def k0_dev35 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2197 : BitVec 32 := 1#32
  let v2567 : BitVec 32 := Scalar.muli v172 c1_i32_2197
  let v2568 : BitVec 32 := Scalar.addi c0_i32_2198 v2567
  v2568.toNat
def k0_dev36 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2242 : BitVec 32 := 1#32
  let v2602 : BitVec 32 := Scalar.muli v131 c1_i32_2242
  let v2603 : BitVec 32 := Scalar.addi c0_i32_2243 v2602
  v2603.toNat
def k0_dev37 (d0 : Dev nD) : Nat :=
  let c0_i32_2288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2287 : BitVec 32 := 1#32
  let v2637 : BitVec 32 := Scalar.muli v172 c1_i32_2287
  let v2638 : BitVec 32 := Scalar.addi c0_i32_2288 v2637
  v2638.toNat
def k0_dev38 (d0 : Dev nD) : Nat :=
  let c0_i32_2333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2332 : BitVec 32 := 1#32
  let v2672 : BitVec 32 := Scalar.muli v131 c1_i32_2332
  let v2673 : BitVec 32 := Scalar.addi c0_i32_2333 v2672
  v2673.toNat
def k0_dev39 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2376 : BitVec 32 := 1#32
  let v2707 : BitVec 32 := Scalar.muli v172 c1_i32_2376
  let v2708 : BitVec 32 := Scalar.addi c0_i32_2377 v2707
  v2708.toNat
def k0_dev40 (d0 : Dev nD) : Nat :=
  let c0_i32_2422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2421 : BitVec 32 := 1#32
  let v2742 : BitVec 32 := Scalar.muli v131 c1_i32_2421
  let v2743 : BitVec 32 := Scalar.addi c0_i32_2422 v2742
  v2743.toNat
def k0_dev41 (d0 : Dev nD) : Nat :=
  let c0_i32_2467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2466 : BitVec 32 := 1#32
  let v2777 : BitVec 32 := Scalar.muli v172 c1_i32_2466
  let v2778 : BitVec 32 := Scalar.addi c0_i32_2467 v2777
  v2778.toNat
def k0_dev42 (d0 : Dev nD) : Nat :=
  let c0_i32_2512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2511 : BitVec 32 := 1#32
  let v2812 : BitVec 32 := Scalar.muli v131 c1_i32_2511
  let v2813 : BitVec 32 := Scalar.addi c0_i32_2512 v2812
  v2813.toNat
def k0_dev43 (d0 : Dev nD) : Nat :=
  let c0_i32_2556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2555 : BitVec 32 := 1#32
  let v2847 : BitVec 32 := Scalar.muli v172 c1_i32_2555
  let v2848 : BitVec 32 := Scalar.addi c0_i32_2556 v2847
  v2848.toNat
def k0_dev44 (d0 : Dev nD) : Nat :=
  let c0_i32_2601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2600 : BitVec 32 := 1#32
  let v2882 : BitVec 32 := Scalar.muli v131 c1_i32_2600
  let v2883 : BitVec 32 := Scalar.addi c0_i32_2601 v2882
  v2883.toNat
def k0_dev45 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2645 : BitVec 32 := 1#32
  let v2917 : BitVec 32 := Scalar.muli v172 c1_i32_2645
  let v2918 : BitVec 32 := Scalar.addi c0_i32_2646 v2917
  v2918.toNat
def k0_dev46 (d0 : Dev nD) : Nat :=
  let c0_i32_2691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2690 : BitVec 32 := 1#32
  let v2952 : BitVec 32 := Scalar.muli v131 c1_i32_2690
  let v2953 : BitVec 32 := Scalar.addi c0_i32_2691 v2952
  v2953.toNat
def k0_dev47 (d0 : Dev nD) : Nat :=
  let c0_i32_2735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2734 : BitVec 32 := 1#32
  let v2987 : BitVec 32 := Scalar.muli v172 c1_i32_2734
  let v2988 : BitVec 32 := Scalar.addi c0_i32_2735 v2987
  v2988.toNat
def k0_dev48 (d0 : Dev nD) : Nat :=
  let c0_i32_2780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2779 : BitVec 32 := 1#32
  let v3022 : BitVec 32 := Scalar.muli v131 c1_i32_2779
  let v3023 : BitVec 32 := Scalar.addi c0_i32_2780 v3022
  v3023.toNat
def k0_dev49 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2824 : BitVec 32 := 1#32
  let v3057 : BitVec 32 := Scalar.muli v172 c1_i32_2824
  let v3058 : BitVec 32 := Scalar.addi c0_i32_2825 v3057
  v3058.toNat
def k0_dev50 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2869 : BitVec 32 := 1#32
  let v3092 : BitVec 32 := Scalar.muli v131 c1_i32_2869
  let v3093 : BitVec 32 := Scalar.addi c0_i32_2870 v3092
  v3093.toNat
def k0_dev51 (d0 : Dev nD) : Nat :=
  let c0_i32_2914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_2913 : BitVec 32 := 1#32
  let v3127 : BitVec 32 := Scalar.muli v172 c1_i32_2913
  let v3128 : BitVec 32 := Scalar.addi c0_i32_2914 v3127
  v3128.toNat
def k0_dev52 (d0 : Dev nD) : Nat :=
  let c0_i32_2959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_2958 : BitVec 32 := 1#32
  let v3162 : BitVec 32 := Scalar.muli v131 c1_i32_2958
  let v3163 : BitVec 32 := Scalar.addi c0_i32_2959 v3162
  v3163.toNat
def k0_dev53 (d0 : Dev nD) : Nat :=
  let c0_i32_3004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_3003 : BitVec 32 := 1#32
  let v3197 : BitVec 32 := Scalar.muli v172 c1_i32_3003
  let v3198 : BitVec 32 := Scalar.addi c0_i32_3004 v3197
  v3198.toNat
def k0_dev54 (d0 : Dev nD) : Nat :=
  let c0_i32_3049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_3048 : BitVec 32 := 1#32
  let v3232 : BitVec 32 := Scalar.muli v131 c1_i32_3048
  let v3233 : BitVec 32 := Scalar.addi c0_i32_3049 v3232
  v3233.toNat
def k0_dev55 (d0 : Dev nD) : Nat :=
  let c0_i32_3093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_3092 : BitVec 32 := 1#32
  let v3267 : BitVec 32 := Scalar.muli v172 c1_i32_3092
  let v3268 : BitVec 32 := Scalar.addi c0_i32_3093 v3267
  v3268.toNat
def k0_dev56 (d0 : Dev nD) : Nat :=
  let c0_i32_3138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_3137 : BitVec 32 := 1#32
  let v3302 : BitVec 32 := Scalar.muli v131 c1_i32_3137
  let v3303 : BitVec 32 := Scalar.addi c0_i32_3138 v3302
  v3303.toNat
def k0_dev57 (d0 : Dev nD) : Nat :=
  let c0_i32_3183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_3182 : BitVec 32 := 1#32
  let v3337 : BitVec 32 := Scalar.muli v172 c1_i32_3182
  let v3338 : BitVec 32 := Scalar.addi c0_i32_3183 v3337
  v3338.toNat
def k0_dev58 (d0 : Dev nD) : Nat :=
  let c0_i32_3228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_3227 : BitVec 32 := 1#32
  let v3372 : BitVec 32 := Scalar.muli v131 c1_i32_3227
  let v3373 : BitVec 32 := Scalar.addi c0_i32_3228 v3372
  v3373.toNat
def k0_dev59 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_3271 : BitVec 32 := 1#32
  let v3407 : BitVec 32 := Scalar.muli v172 c1_i32_3271
  let v3408 : BitVec 32 := Scalar.addi c0_i32_3272 v3407
  v3408.toNat
def k0_dev60 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_3316 : BitVec 32 := 1#32
  let v3442 : BitVec 32 := Scalar.muli v131 c1_i32_3316
  let v3443 : BitVec 32 := Scalar.addi c0_i32_3317 v3442
  v3443.toNat
def k0_dev61 (d0 : Dev nD) : Nat :=
  let c0_i32_3362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c1_i32_59 : BitVec 32 := 1#32
  let v132 : BitVec 32 := Scalar.addi v89 c1_i32_59
  let c16_i32_60 : BitVec 32 := 16#32
  let c0_i32_61 : BitVec 32 := 0#32
  let v133 : BitVec 1 := Scalar.cmpi .eq c16_i32_60 c0_i32_61
  let c1_i32_62 : BitVec 32 := 1#32
  let v134 : BitVec 32 := Scalar.select v133 c1_i32_62 c16_i32_60
  let v135 : BitVec 32 := Scalar.remsi v132 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let c0_i32_67 : BitVec 32 := 0#32
  let v144 : BitVec 1 := Scalar.cmpi .sgt v142 c0_i32_67
  let v145 : BitVec 32 := Scalar.extui v144
  let c0_i32_68 : BitVec 32 := 0#32
  let v146 : BitVec 1 := Scalar.cmpi .slt v142 c0_i32_68
  let v147 : BitVec 32 := Scalar.extui v146
  let v148 : BitVec 32 := Scalar.subi v145 v147
  let c4_i32_66 : BitVec 32 := 4#32
  let c0_i32_69 : BitVec 32 := 0#32
  let v149 : BitVec 1 := Scalar.cmpi .sgt c4_i32_66 c0_i32_69
  let v150 : BitVec 32 := Scalar.extui v149
  let c0_i32_70 : BitVec 32 := 0#32
  let v151 : BitVec 1 := Scalar.cmpi .slt c4_i32_66 c0_i32_70
  let v152 : BitVec 32 := Scalar.extui v151
  let v153 : BitVec 32 := Scalar.subi v150 v152
  let v154 : BitVec 1 := Scalar.cmpi .ne v148 v153
  let v155 : BitVec 32 := Scalar.remsi v142 c4_i32_66
  let c0_i32_71 : BitVec 32 := 0#32
  let v156 : BitVec 1 := Scalar.cmpi .ne v155 c0_i32_71
  let v157 : BitVec 1 := Scalar.andi v154 v156
  let v143 : BitVec 32 := Scalar.divsi v142 c4_i32_66
  let c1_i32_72 : BitVec 32 := 1#32
  let v158 : BitVec 32 := Scalar.subi v143 c1_i32_72
  let v159 : BitVec 32 := Scalar.select v157 v158 v143
  let c2_i32_82 : BitVec 32 := 2#32
  let v171 : BitVec 1 := Scalar.cmpi .slt v159 c2_i32_82
  let c0_i32_73 : BitVec 32 := 0#32
  let v160 : BitVec 1 := Scalar.cmpi .eq v159 c0_i32_73
  let c4_i32_74 : BitVec 32 := 4#32
  let v161 : BitVec 32 := Scalar.muli c4_i32_74 v142
  let c29_i32_76 : BitVec 32 := 29#32
  let c4_i32_75 : BitVec 32 := 4#32
  let v162 : BitVec 32 := Scalar.muli c4_i32_75 v142
  let v163 : BitVec 32 := Scalar.subi c29_i32_76 v162
  let v164 : BitVec 32 := Scalar.select v160 v161 v163
  let c2_i32_77 : BitVec 32 := 2#32
  let v165 : BitVec 1 := Scalar.cmpi .eq v159 c2_i32_77
  let c4_i32_78 : BitVec 32 := 4#32
  let v166 : BitVec 32 := Scalar.muli c4_i32_78 v142
  let c30_i32_79 : BitVec 32 := 30#32
  let v167 : BitVec 32 := Scalar.subi v166 c30_i32_79
  let c63_i32_81 : BitVec 32 := 63#32
  let c4_i32_80 : BitVec 32 := 4#32
  let v168 : BitVec 32 := Scalar.muli c4_i32_80 v142
  let v169 : BitVec 32 := Scalar.subi c63_i32_81 v168
  let v170 : BitVec 32 := Scalar.select v165 v167 v169
  let v172 : BitVec 32 := Scalar.select v171 v164 v170
  let c1_i32_3361 : BitVec 32 := 1#32
  let v3477 : BitVec 32 := Scalar.muli v172 c1_i32_3361
  let v3478 : BitVec 32 := Scalar.addi c0_i32_3362 v3477
  v3478.toNat
def k0_dev62 (d0 : Dev nD) : Nat :=
  let c0_i32_3407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_33 : BitVec 32 := 2#32
  let v88 : BitVec 1 := Scalar.cmpi .slt v12 c2_i32_33
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c29_i32 : BitVec 32 := 29#32
  let v31 : BitVec 32 := Scalar.subi c29_i32 v2
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c4_i32_12 : BitVec 32 := 4#32
  let c0_i32_15 : BitVec 32 := 0#32
  let v38 : BitVec 1 := Scalar.cmpi .sgt c4_i32_12 c0_i32_15
  let v39 : BitVec 32 := Scalar.extui v38
  let c0_i32_16 : BitVec 32 := 0#32
  let v40 : BitVec 1 := Scalar.cmpi .slt c4_i32_12 c0_i32_16
  let v41 : BitVec 32 := Scalar.extui v40
  let v42 : BitVec 32 := Scalar.subi v39 v41
  let v43 : BitVec 1 := Scalar.cmpi .ne v37 v42
  let v44 : BitVec 32 := Scalar.remsi v31 c4_i32_12
  let c0_i32_17 : BitVec 32 := 0#32
  let v45 : BitVec 1 := Scalar.cmpi .ne v44 c0_i32_17
  let v46 : BitVec 1 := Scalar.andi v43 v45
  let v32 : BitVec 32 := Scalar.divsi v31 c4_i32_12
  let c1_i32_18 : BitVec 32 := 1#32
  let v47 : BitVec 32 := Scalar.subi v32 c1_i32_18
  let v48 : BitVec 32 := Scalar.select v46 v47 v32
  let v49 : BitVec 32 := Scalar.select v13 v30 v48
  let c2_i32 : BitVec 32 := 2#32
  let v50 : BitVec 1 := Scalar.cmpi .eq v12 c2_i32
  let c30_i32 : BitVec 32 := 30#32
  let v51 : BitVec 32 := Scalar.addi v2 c30_i32
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c4_i32_19 : BitVec 32 := 4#32
  let c0_i32_22 : BitVec 32 := 0#32
  let v58 : BitVec 1 := Scalar.cmpi .sgt c4_i32_19 c0_i32_22
  let v59 : BitVec 32 := Scalar.extui v58
  let c0_i32_23 : BitVec 32 := 0#32
  let v60 : BitVec 1 := Scalar.cmpi .slt c4_i32_19 c0_i32_23
  let v61 : BitVec 32 := Scalar.extui v60
  let v62 : BitVec 32 := Scalar.subi v59 v61
  let v63 : BitVec 1 := Scalar.cmpi .ne v57 v62
  let v64 : BitVec 32 := Scalar.remsi v51 c4_i32_19
  let c0_i32_24 : BitVec 32 := 0#32
  let v65 : BitVec 1 := Scalar.cmpi .ne v64 c0_i32_24
  let v66 : BitVec 1 := Scalar.andi v63 v65
  let v52 : BitVec 32 := Scalar.divsi v51 c4_i32_19
  let c1_i32_25 : BitVec 32 := 1#32
  let v67 : BitVec 32 := Scalar.subi v52 c1_i32_25
  let v68 : BitVec 32 := Scalar.select v66 v67 v52
  let c63_i32 : BitVec 32 := 63#32
  let v69 : BitVec 32 := Scalar.subi c63_i32 v2
  let c0_i32_27 : BitVec 32 := 0#32
  let v71 : BitVec 1 := Scalar.cmpi .sgt v69 c0_i32_27
  let v72 : BitVec 32 := Scalar.extui v71
  let c0_i32_28 : BitVec 32 := 0#32
  let v73 : BitVec 1 := Scalar.cmpi .slt v69 c0_i32_28
  let v74 : BitVec 32 := Scalar.extui v73
  let v75 : BitVec 32 := Scalar.subi v72 v74
  let c4_i32_26 : BitVec 32 := 4#32
  let c0_i32_29 : BitVec 32 := 0#32
  let v76 : BitVec 1 := Scalar.cmpi .sgt c4_i32_26 c0_i32_29
  let v77 : BitVec 32 := Scalar.extui v76
  let c0_i32_30 : BitVec 32 := 0#32
  let v78 : BitVec 1 := Scalar.cmpi .slt c4_i32_26 c0_i32_30
  let v79 : BitVec 32 := Scalar.extui v78
  let v80 : BitVec 32 := Scalar.subi v77 v79
  let v81 : BitVec 1 := Scalar.cmpi .ne v75 v80
  let v82 : BitVec 32 := Scalar.remsi v69 c4_i32_26
  let c0_i32_31 : BitVec 32 := 0#32
  let v83 : BitVec 1 := Scalar.cmpi .ne v82 c0_i32_31
  let v84 : BitVec 1 := Scalar.andi v81 v83
  let v70 : BitVec 32 := Scalar.divsi v69 c4_i32_26
  let c1_i32_32 : BitVec 32 := 1#32
  let v85 : BitVec 32 := Scalar.subi v70 c1_i32_32
  let v86 : BitVec 32 := Scalar.select v84 v85 v70
  let v87 : BitVec 32 := Scalar.select v50 v68 v86
  let v89 : BitVec 32 := Scalar.select v88 v49 v87
  let c16_i32_34 : BitVec 32 := 16#32
  let v90 : BitVec 32 := Scalar.addi v89 c16_i32_34
  let c1_i32_35 : BitVec 32 := 1#32
  let v91 : BitVec 32 := Scalar.subi v90 c1_i32_35
  let c16_i32_36 : BitVec 32 := 16#32
  let c0_i32_37 : BitVec 32 := 0#32
  let v92 : BitVec 1 := Scalar.cmpi .eq c16_i32_36 c0_i32_37
  let c1_i32_38 : BitVec 32 := 1#32
  let v93 : BitVec 32 := Scalar.select v92 c1_i32_38 c16_i32_36
  let v94 : BitVec 32 := Scalar.remsi v91 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c0_i32_43 : BitVec 32 := 0#32
  let v103 : BitVec 1 := Scalar.cmpi .sgt v101 c0_i32_43
  let v104 : BitVec 32 := Scalar.extui v103
  let c0_i32_44 : BitVec 32 := 0#32
  let v105 : BitVec 1 := Scalar.cmpi .slt v101 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi v101 c4_i32_42
  let c0_i32_47 : BitVec 32 := 0#32
  let v115 : BitVec 1 := Scalar.cmpi .ne v114 c0_i32_47
  let v116 : BitVec 1 := Scalar.andi v113 v115
  let v102 : BitVec 32 := Scalar.divsi v101 c4_i32_42
  let c1_i32_48 : BitVec 32 := 1#32
  let v117 : BitVec 32 := Scalar.subi v102 c1_i32_48
  let v118 : BitVec 32 := Scalar.select v116 v117 v102
  let c2_i32_58 : BitVec 32 := 2#32
  let v130 : BitVec 1 := Scalar.cmpi .slt v118 c2_i32_58
  let c0_i32_49 : BitVec 32 := 0#32
  let v119 : BitVec 1 := Scalar.cmpi .eq v118 c0_i32_49
  let c4_i32_50 : BitVec 32 := 4#32
  let v120 : BitVec 32 := Scalar.muli c4_i32_50 v101
  let c29_i32_52 : BitVec 32 := 29#32
  let c4_i32_51 : BitVec 32 := 4#32
  let v121 : BitVec 32 := Scalar.muli c4_i32_51 v101
  let v122 : BitVec 32 := Scalar.subi c29_i32_52 v121
  let v123 : BitVec 32 := Scalar.select v119 v120 v122
  let c2_i32_53 : BitVec 32 := 2#32
  let v124 : BitVec 1 := Scalar.cmpi .eq v118 c2_i32_53
  let c4_i32_54 : BitVec 32 := 4#32
  let v125 : BitVec 32 := Scalar.muli c4_i32_54 v101
  let c30_i32_55 : BitVec 32 := 30#32
  let v126 : BitVec 32 := Scalar.subi v125 c30_i32_55
  let c63_i32_57 : BitVec 32 := 63#32
  let c4_i32_56 : BitVec 32 := 4#32
  let v127 : BitVec 32 := Scalar.muli c4_i32_56 v101
  let v128 : BitVec 32 := Scalar.subi c63_i32_57 v127
  let v129 : BitVec 32 := Scalar.select v124 v126 v128
  let v131 : BitVec 32 := Scalar.select v130 v123 v129
  let c1_i32_3406 : BitVec 32 := 1#32
  let v3512 : BitVec 32 := Scalar.muli v131 c1_i32_3406
  let v3513 : BitVec 32 := Scalar.addi c0_i32_3407 v3512
  v3513.toNat
abbrev stage0_0 : Fin 1 → Memref sig .tc .vmem S1x8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x8192x512 : Shape := ⟨3, ![16, 8192, 512]⟩
abbrev S512 : Shape := ⟨1, ![512]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S512, .f32⟩
  | .hbm, ⟨2, _⟩ => ⟨S_, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KIProg.lean ====
/-
The kernel's body written once for every step of the ring.

The printed body is straight-line code: the same few operations for each of the fifteen steps, each of the two
directions and each of the two row halves. Here those operations are written once, with the direction `e`, the step `s`
and the row half `b` as parameters (`false` is the direction to the right neighbour, `true` to the left), and
`body_eq` says that the printed body is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.RingProof

open Cert.KernelIdeal Cert.KernelIdeal.Gen
open Idealize.ShloMosaic Idealize.ShloMosaic.TcCoe Idealize.SL.Sem

variable {F : FTy → Type} [FloatOps F]

/-- The kernel's programs. -/
abbrev KProg (F : FTy → Type) [FloatOps F] := Prog (TpuEff nD τ sig (Elt F) Λ₀ .tc) PUnit

/-! ## The buffers, semaphores and offsets of a direction -/

/-- The device's block of the operand, the scale and the result, as staged. -/
abbrev xM : Memref sig .tc .vmem S1x8192x512 .f32 := Memref.whole cc0_stg0_0
abbrev gM : Memref sig .tc .vmem S512 .f32 := Memref.whole cc0_stg1_0
abbrev oM : Memref sig .tc .vmem S512x512 .f32 := Memref.whole cc0_stg2_0

/-- The two send halves of direction `e`. -/
abbrev sndRef : Bool → Ref sig .tc | false => cc0_scratch0 | true => cc0_scratch1
def sndM : Bool → Memref sig .tc .vmem S2x256x256 .f32 | false => Memref.whole cc0_scratch0 | true => Memref.whole cc0_scratch1
/-- The landing slots of direction `e`. -/
def comM : Bool → Memref sig .tc .vmem S15x512x256 .f32 | false => Memref.whole cc0_scratch2 | true => Memref.whole cc0_scratch3
/-- The semaphores a device's own transfers, and the transfers into it, complete on. -/
def sndS : Bool → DmaSems sig S15x2 | false => cc0_scratch4 | true => cc0_scratch6
def rcvS : Bool → DmaSems sig S15x2 | false => cc0_scratch5 | true => cc0_scratch7

theorem inbSem (s : Fin 15) (b : Fin 2) : ∀ a, (![s.val, b.val] : Fin 2 → Nat) a + S1x1.size a ≤ S15x2.size a := by
  intro a; have := s.isLt; have := b.isLt; fin_cases a
  · show s.val + 1 ≤ 15; omega
  · show b.val + 1 ≤ 2; omega
theorem inbSnd (b : Fin 2) : ∀ a, (![b.val, 0, 0] : Fin 3 → Nat) a + S1x256x256.size a ≤ S2x256x256.size a := by
  intro a; have := b.isLt; fin_cases a
  · show b.val + 1 ≤ 2; omega
  · show 0 + 256 ≤ 256; omega
  · show 0 + 256 ≤ 256; omega
theorem inbCom (s : Fin 15) (b : Fin 2) : ∀ a, (![s.val, 256 * b.val, 0] : Fin 3 → Nat) a + S1x256x256.size a ≤ S15x512x256.size a := by
  intro a; have := s.isLt; have := b.isLt; fin_cases a
  · show s.val + 1 ≤ 15; omega
  · show 256 * b.val + 256 ≤ 512; omega
  · show 0 + 256 ≤ 256; omega
theorem inbOut (b e : Fin 2) : ∀ a, (![256 * b.val, 256 * e.val] : Fin 2 → Nat) a + S256x256.size a ≤ S512x512.size a := by
  intro a; have := b.isLt; have := e.isLt; fin_cases a
  · show 256 * b.val + 256 ≤ 512; omega
  · show 256 * e.val + 256 ≤ 512; omega

/-- The rectangles the loads, stores and transfers name. -/
abbrev sndRect (b : Fin 2) : Rect S2x256x256 := Rect.unit (s := S2x256x256) ![b.val, 0, 0] S1x256x256.size (inbSnd b)
abbrev comRect (s : Fin 15) (b : Fin 2) : Rect S15x512x256 := Rect.unit (s := S15x512x256) ![s.val, 256 * b.val, 0] S1x256x256.size (inbCom s b)
abbrev outRect (b e : Fin 2) : Rect S512x512 := Rect.unit (s := S512x512) ![256 * b.val, 256 * e.val] S256x256.size (inbOut b e)
abbrev semRect (s : Fin 15) (b : Fin 2) : Rect S15x2 := Rect.unit (s := S15x2) ![s.val, b.val] S1x1.size (inbSem s b)

/-- One send half, one landing slot, and their semaphores. -/
def sndBuf (e : Bool) (b : Fin 2) : Memref sig .tc .vmem S256x256 .f32 :=
  ((sndM e).slice (sndRect b) (fun _ => rfl)).squeeze S256x256 squeezes_S1x256x256_S256x256
def comBuf (e : Bool) (s : Fin 15) (b : Fin 2) : Memref sig .tc .vmem S256x256 .f32 :=
  ((comM e).slice (comRect s b) (fun _ => rfl)).squeeze S256x256 squeezes_S1x256x256_S256x256
def sndSem (e : Bool) (s : Fin 15) (b : Fin 2) : DmaSem sig := (((sndS e).slice (semRect s b)).squeeze S_ squeezes_S1x1_S_).sem
def rcvSem (e : Bool) (s : Fin 15) (b : Fin 2) : DmaSem sig := (((rcvS e).slice (semRect s b)).squeeze S_ squeezes_S1x1_S_).sem

/-- Where the chunk a device adds at step `s` of direction `e` lies in its block of the operand. -/
def xOff (e : Bool) (d : Dev nD) (s : Fin 16) (b : Fin 2) : Fin 3 → Nat :=
  match e with
  | false => k0_off1 d (BitVec.ofNat 32 (16 + (15 - s.val))) (BitVec.ofNat 32 (256 * b.val))
  | true => k0_off2 d (BitVec.ofNat 32 (1 + s.val)) (BitVec.ofNat 32 (256 * b.val))
theorem xOff_inb (e : Bool) (d : Dev nD) (s : Fin 16) (b : Fin 2) : ∀ a, xOff e d s b a + S1x256x256.size a ≤ S1x8192x512.size a :=
  match e with
  | false => k0_off1_inb d ⟨15 - s.val, by omega⟩ b
  | true => k0_off2_inb d s b
abbrev xRect (e : Bool) (d : Dev nD) (s : Fin 16) (b : Fin 2) : Rect S1x8192x512 :=
  Rect.unit (s := S1x8192x512) (xOff e d s b) S1x256x256.size (xOff_inb e d s b)

/-- The neighbour direction `e` sends to. -/
def toDev (e : Bool) (d : Dev nD) : Dev nD :=
  match e with
  | false => ⟨k0_dev2 d, k0_dev2_lt d⟩
  | true => ⟨k0_dev1 d, k0_dev1_lt d⟩

/-! ## The operations -/

abbrev barS : Sem sig := (SemArray.scalar (sig.barrier 0 rfl) : Sems sig S_).sem

def opSignal (d : Dev nD) (k : KProg F) : KProg F := (semSignalWord d barS 1#32).bind fun _ => k
def opBarrier (k : KProg F) : KProg F := (semWaitWord barS 2#32).bind fun _ => k
def opLoadX (e : Bool) (d : Dev nD) (s : Fin 16) (b : Fin 2) (k : Vec F S1x256x256 .f32 → KProg F) : KProg F :=
  .op (.load xM (xRect e d s b).toLoadRect (View.loadsAt_vmem h_S1x256x256)) k
def opLoadG (k : Vec F S512 .f32 → KProg F) : KProg F :=
  .op (.load gM (Rect.unit (s := S512) ![0] S512.size inb_S512_S512_0).toLoadRect (View.loadsAt_vmem h_S512)) k
def opLoadCom (e : Bool) (s : Fin 15) (b : Fin 2) (k : Vec F S1x256x256 .f32 → KProg F) : KProg F :=
  .op (.load (comM e) (comRect s b).toLoadRect (View.loadsAt_vmem h_S1x256x256)) k
/-- A store into a send half: the half is read first, the value read unused. -/
def opStoreSnd (e : Bool) (b : Fin 2) (v : FVec F S1x256x256 .f32) (k : KProg F) : KProg F :=
  .op (.load (sndM e) (sndRect b).toLoadRect (View.loadsAt_vmem h_S1x256x256)) fun _ =>
    .op (.store (sndM e) (sndRect b) v Finset.univ (View.stores_vmem_bits_univ h_S1x256x256 rfl) (.inl rfl)) fun _ => k
/-- A store into a quarter of the result, likewise. -/
def opStoreOut (b e : Fin 2) (v : FVec F S256x256 .f32) (k : KProg F) : KProg F :=
  .op (.load oM (outRect b e).toLoadRect (View.loadsAt_vmem h_S256x256)) fun _ =>
    .op (.store oM (outRect b e) v Finset.univ (View.stores_vmem_bits_univ h_S256x256 rfl) (.inl rfl)) fun _ => k
def opSend (e : Bool) (d : Dev nD) (s : Fin 15) (b : Fin 2) (k : KProg F) : KProg F :=
  .op (.enqueueDma (sndBuf e b) (.remote (Dev.tc (toDev e d)) (comBuf e s b) (.dma (sndSem e s b))) (.dma (rcvSem e s b))
    ((View.wordExact_bits rfl).reshape _ _) ((View.wordExact_bits rfl).reshape _ _) ⟨⟨rfl, Or.inl rfl⟩, trivial⟩) fun _ => k
def opWaitSnd (e : Bool) (s : Fin 15) (b : Fin 2) (k : KProg F) : KProg F :=
  .op (.waitDma2 (sndSem e s b) (comBuf e s b) (sndBuf e b) ((View.wordExact_bits rfl).reshape _ _) ((View.wordExact_bits rfl).reshape _ _)) fun _ => k
def opWaitRcv (e : Bool) (s : Fin 15) (b : Fin 2) (k : KProg F) : KProg F :=
  .op (.waitDma2 (rcvSem e s b) (sndBuf e b) (comBuf e s b) ((View.wordExact_bits rfl).reshape _ _) ((View.wordExact_bits rfl).reshape _ _)) fun _ => k

/-! ## The steps -/

/-- The value a device sends first: its own chunk. -/
abbrev firstV (x : Vec F S1x256x256 .f32) : FVec F S1x256x256 .f32 := k0_pay1 x
/-- The value it sends later: what landed plus its own chunk. -/
abbrev addV (v x : Vec F S1x256x256 .f32) : FVec F S1x256x256 .f32 := k0_pay5 v x

def firstStore (e : Bool) (d : Dev nD) (b : Fin 2) (k : KProg F) : KProg F :=
  opLoadX e d 0 b fun v => opStoreSnd e b (firstV v) k

/-- Step 0 of row half `b`: both directions' chunks stored, then sent. -/
def first (d : Dev nD) (b : Fin 2) (k : KProg F) : KProg F :=
  firstStore false d b (firstStore true d b (opSend false d 0 b (opSend true d 0 b k)))

/-- Step `s + 1` of one direction and row half: wait for step `s`, add what landed, send on. -/
def step (e : Bool) (d : Dev nD) (s : Fin 14) (b : Fin 2) (k : KProg F) : KProg F :=
  opWaitSnd e s.castSucc b <| opWaitRcv e s.castSucc b <| opLoadCom e s.castSucc b fun v => opLoadX e d s.succ.castSucc b fun x =>
    opStoreSnd e b (addV v x) <| opSend e d s.succ b k

def round (d : Dev nD) (s : Fin 14) (k : KProg F) : KProg F :=
  step false d s 0 <| step true d s 0 <| step false d s 1 <| step true d s 1 k

/-- The rounds from `14 - n` on, then `k`. -/
def rounds (d : Dev nD) (k : KProg F) : (n : ℕ) → n ≤ 14 → KProg F
  | 0, _ => k
  | n + 1, h => round d ⟨13 - n, by omega⟩ (rounds d k n (by omega))

/-- The two column halves of a row half of the result, from what landed last, the device's own chunks and the scale. -/
def outR (vr xr vl xl : Vec F S1x256x256 .f32) (g : Vec F S512 .f32) : FVec F S256x256 .f32 := k0_pay76 vr xr vl xl g
def outL (vr xr vl xl : Vec F S1x256x256 .f32) (g : Vec F S512 .f32) : FVec F S256x256 .f32 :=
  k0_pay77 (k0_pay73 vl xl) (k0_pay74 vr xr vl xl) (k0_pay75 g)

def last (d : Dev nD) (b : Fin 2) (k : KProg F) : KProg F :=
  opWaitRcv false 14 b <| opWaitRcv true 14 b <|
    opLoadCom false 14 b fun vr => opLoadX false d 15 b fun xr => opLoadCom true 14 b fun vl => opLoadX true d 15 b fun xl => opLoadG fun g =>
      opStoreOut b 0 (outR vr xr vl xl g) <| opStoreOut b 1 (outL vr xr vl xl g) k

def drain (k : KProg F) : KProg F :=
  opWaitSnd false 14 0 <| opWaitSnd true 14 0 <| opWaitSnd false 14 1 <| opWaitSnd true 14 1 k

/-- The whole body. -/
def ringBody : KProg F :=
  .op .deviceId fun d => opSignal (toDev true d) <| opSignal (toDev false d) <| opBarrier <|
    first d 0 <| first d 1 <| rounds d (last d 0 <| last d 1 <| drain <| .ret ⟨⟩) 14 (le_refl _)

set_option maxRecDepth 65536 in
/-- The printed body is the program above. -/
theorem body_eq :
    cc0_body (F := F) xM (Memref.isWhole_whole _) gM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7 = ringBody := by
  chain_rfl

end Cert.KernelIdeal.RingProof

end
-- ==== Proof.KIProto.lean ====
/-
The protocol of the ring: the cells (semaphores) and what each landing on a cell hands over.

Every device has one barrier cell and, for each direction `e`, step `s` and row half `b`, one send cell and one receive
cell. A device signals both neighbours' barrier cells once; the signal hands over the landing slots the neighbour writes
into. A transfer of direction `e`, step `s`, half `b` completes on the sender's send cell, which hands the send half back,
and on the receiver's receive cell, which hands over the receiver's slot holding the partial sum the sender had.
-/
module

public import proofs.«01_k».proof.Proof.KIProg
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem toDev_inv : ∀ (e : Bool) (c : Dev nD), toDev (!e) (toDev e c) = c := by decide
theorem toDev_inv' (e : Bool) (c : Dev nD) : toDev e (toDev (!e) c) = c := by
  have := toDev_inv (!e) c; rwa [Bool.not_not] at this

/-- The ring as a permutation of the devices. -/
def ring (e : Bool) : Dev nD ≃ Dev nD := ⟨toDev e, toDev (!e), toDev_inv e, toDev_inv' e⟩

/-! ## The cells -/

/-- A transfer: its direction, step and row half. -/
abbrev CK : Type := Bool × Fin 15 × Fin 2
/-- A transfer cell of a device: the receive (`true`) or the send (`false`) cell of a transfer. -/
abbrev XK : Type := Bool × CK

/-- The place of a transfer in the order in which a device issues its transfers. -/
def tIdx (k : CK) : ℕ := 4 * k.2.1.val + 2 * k.2.2.val + k.1.toNat

theorem tIdx_inj {k k' : CK} (h : tIdx k = tIdx k') : k = k' := by
  obtain ⟨e, s, b⟩ := k; obtain ⟨e', s', b'⟩ := k'
  unfold tIdx at h
  have := b.isLt; have := b'.isLt
  have h1 : e.toNat < 2 := by cases e <;> decide
  have h2 : e'.toNat < 2 := by cases e' <;> decide
  dsimp only at h
  have hs : s.val = s'.val := by omega
  have hb : b.val = b'.val := by omega
  have he : e.toNat = e'.toNat := by omega
  have he' : e = e' := by cases e <;> cases e' <;> first | rfl | cases he
  rw [Fin.ext hs, Fin.ext hb, he']

/-- The semaphore of a transfer cell. -/
def osem (x : XK) : SemLoc sig :=
  match x with
  | (false, e, s, b) => .dma (sndSem e s b)
  | (true, e, s, b) => .dma (rcvSem e s b)

theorem sndSem_val : ∀ (e : Bool) (s : Fin 15) (b : Fin 2), (sndSem e s b).val = 3 + 60 * e.toNat + 2 * s.val + b.val := by decide +kernel
theorem rcvSem_val : ∀ (e : Bool) (s : Fin 15) (b : Fin 2), (rcvSem e s b).val = 33 + 60 * e.toNat + 2 * s.val + b.val := by decide +kernel

theorem osem_inj : Function.Injective osem := by
  rintro ⟨k, e, s, b⟩ ⟨k', e', s', b'⟩ h
  have hs := s.isLt; have hs' := s'.isLt; have hb := b.isLt; have hb' := b'.isLt
  have h1 : e.toNat < 2 := by cases e <;> decide
  have h2 : e'.toNat < 2 := by cases e' <;> decide
  have key : k = k' ∧ e.toNat = e'.toNat ∧ s.val = s'.val ∧ b.val = b'.val := by
    cases k <;> cases k' <;> (have h' := congrArg Fin.val (SemLoc.dma.inj h)) <;>
      simp only [sndSem_val, rcvSem_val] at h' <;> refine ⟨?_, ?_, ?_, ?_⟩ <;> first | rfl | omega
  obtain ⟨rfl, he, h3, h4⟩ := key
  have he' : e = e' := by cases e <;> cases e' <;> first | rfl | cases he
  rw [Fin.ext h3, Fin.ext h4, he']

abbrev barCell (c : Dev nD) : GSem nD τ sig := ((c : Thread nD τ), .reg barS)
abbrev sndCell (k : CK) (c : Dev nD) : GSem nD τ sig := ((c : Thread nD τ), .dma (sndSem k.1 k.2.1 k.2.2))
abbrev rcvCell (k : CK) (c : Dev nD) : GSem nD τ sig := ((c : Thread nD τ), .dma (rcvSem k.1 k.2.1 k.2.2))

/-- All the ring's semaphores: the barrier and the transfer cells; -/
def csem : Option XK → SemLoc sig | none => .reg barS | some x => osem x
/-- and a device's cell of each. -/
abbrev kcell (ck : Dev nD × Option XK) : GSem nD τ sig := ((ck.1 : Thread nD τ), csem ck.2)

theorem csem_inj : Function.Injective csem := by
  rintro (_ | x) (_ | y) h
  · rfl
  · obtain ⟨_ | _, e, s, b⟩ := y <;> cases h
  · obtain ⟨_ | _, e, s, b⟩ := x <;> cases h
  · rw [osem_inj h]

/-- The credit of one transfer. -/
def N : ℕ := (comBuf false 0 0).view.dmaCredit
theorem N_pos : 0 < N := View.dmaCredit_pos _ (by decide)
theorem com_credit (e : Bool) (s : Fin 15) (b : Fin 2) : (comBuf e s b).view.dmaCredit = N := by cases e <;> rfl
theorem snd_credit (e : Bool) (b : Fin 2) : (sndBuf e b).view.dmaCredit = N := by cases e <;> rfl

/-! ## Contents -/

/-- The contents of device `c`'s staged block of the operand; -/
def xstg (c : Dev nD) : (cc0_stg0_0 : Ref sig .tc).ty.Contents (Elt F) :=
  (win0_0.blk (0 : Fin 1)).view.read (Elt F) ((s₀ m ρ).mem ((c : Thread nD τ).loc main_arg0))
/-- and of its staged scale. -/
def gstg (c : Dev nD) : (cc0_stg1_0 : Ref sig .tc).ty.Contents (Elt F) :=
  (win0_1.blk (0 : Fin 1)).view.read (Elt F) ((s₀ m ρ).mem ((c : Thread nD τ).loc main_arg1))

/-- The piece of its block device `c` adds at step `s` of direction `e`, row half `b`. -/
def xblk (e : Bool) (c : Dev nD) (s : Fin 16) (b : Fin 2) : Vec F S1x256x256 .f32 :=
  (xM : Memref sig .tc .vmem S1x8192x512 .f32).view.readAt (Elt F) (xRect e c s b).toLoadRect (xstg m ρ c)
/-- The scale as loaded. -/
def gval (c : Dev nD) : Vec F S512 .f32 :=
  (gM : Memref sig .tc .vmem S512 .f32).view.readAt (Elt F) (Rect.unit (s := S512) ![0] S512.size inb_S512_S512_0).toLoadRect (gstg m ρ c)

/-- The partial sum device `c` sends at step `n` of direction `e`, row half `b`: at step 0 its own piece, later what the
    device behind it sent one step before plus its own piece. -/
def acc (e : Bool) (b : Fin 2) : ℕ → Dev nD → FVec F S1x256x256 .f32
  | 0, c => firstV (xblk m ρ e c 0 b)
  | n + 1, c => addV (acc e b n (toDev (!e) c)) (xblk m ρ e c (Fin.ofNat 16 (n + 1)) b)

/-- A send half and a landing slot of device `c`, held outright at contents `f`. -/
def half (e : Bool) (b : Fin 2) (c : Dev nD) (f : Buf (Elt F) ((sndBuf e b).view.loc (c : Thread nD τ))) : sProp 𝕄 :=
  (sndBuf e b).view.loc (c : Thread nD τ) ↦[(sndBuf e b).view.set]{fullShare} f
def slot (k : CK) (c : Dev nD) (f : Buf (Elt F) ((comBuf k.1 k.2.1 k.2.2).view.loc (c : Thread nD τ))) : sProp 𝕄 :=
  (comBuf k.1 k.2.1 k.2.2).view.loc (c : Thread nD τ) ↦[(comBuf k.1 k.2.1 k.2.2).view.set]{fullShare} f

omit [FloatOps F] in
instance half_storable (e : Bool) (b : Fin 2) (c : Dev nD) (f) : BI.Storable (upEmb : UEmb _ 𝕄) (half (F := F) e b c f) := by unfold half; infer_instance
omit [FloatOps F] in
instance slot_storable (k : CK) (c : Dev nD) (f) : BI.Storable (upEmb : UEmb _ 𝕄) (slot (F := F) k c f) := by unfold slot; infer_instance

/-- What a load of a slot reads. -/
def slotVal (k : CK) (c : Dev nD) (f : Buf (Elt F) ((comBuf k.1 k.2.1 k.2.2).view.loc (c : Thread nD τ))) : Vec F S1x256x256 .f32 :=
  (comM k.1).view.readAt (Elt F) (comRect k.2.1 k.2.2).toLoadRect f

/-! ## The schedule -/

/-- What the neighbour `toDev e c` hands device `c` by its barrier signal: its slots of direction `e`. -/
def barPay (e : Bool) (c : Dev nD) : sProp 𝕄 :=
  bigSep Finset.univ fun sb : Fin 15 × Fin 2 => iprop(∃ f, slot (F := F) (e, sb) (toDev e c) f)
/-- What a landing of transfer `k` hands device `c`: the slot holding the partial sum of the device behind it; -/
def rcvPay (k : CK) (c : Dev nD) : sProp 𝕄 :=
  iprop(∃ f, ⌜slotVal (F := F) k c f = acc m ρ k.1 k.2.2 k.2.1.val (toDev (!k.1) c)⌝ ∗ slot k c f)
/-- and what its departure hands device `c`: the send half. -/
def sndPay (k : CK) (c : Dev nD) : sProp 𝕄 := iprop(∃ f, half (F := F) k.1 k.2.2 c f)

/-- The payload of a transfer cell. -/
def xPay (x : XK) (c : Dev nD) : sProp 𝕄 := match x.1 with | false => sndPay (F := F) x.2 c | true => rcvPay m ρ x.2 c

instance xPay_storable (x : XK) (c : Dev nD) : BI.Storable (upEmb : UEmb _ 𝕄) (xPay (F := F) m ρ x c) := by
  obtain ⟨_ | _, k⟩ := x
  · show BI.Storable upEmb (sndPay (F := F) k c); unfold sndPay; infer_instance
  · show BI.Storable upEmb (rcvPay m ρ k c); unfold rcvPay; infer_instance
omit [FloatOps F] in
instance barPay_storable (e : Bool) (c : Dev nD) : BI.Storable (upEmb : UEmb _ 𝕄) (barPay (F := F) e c) := by unfold barPay; infer_instance

open Classical in
/-- The payload of a semaphore that is none of the barrier's. -/
def dmaPay (q : SemLoc sig) (c : Dev nD) : sProp 𝕄 := if h : ∃ x, osem x = q then xPay m ρ (Classical.choose h) c else iprop(emp)

theorem dmaPay_osem (x : XK) (c : Dev nD) : dmaPay m ρ (osem x) c = xPay m ρ x c := by
  unfold dmaPay
  have h : ∃ y, osem y = osem x := ⟨x, rfl⟩
  rw [dif_pos h, osem_inj (Classical.choose_spec h)]

instance dmaPay_storable (q : SemLoc sig) (c : Dev nD) : BI.Storable (upEmb : UEmb _ 𝕄) (dmaPay (F := F) m ρ q c) := by
  unfold dmaPay; split <;> infer_instance

/-- One round, round 0: a barrier cell has the two duties `false` and `true` of one unit each (duty `e` is the neighbour
    `toDev e`'s); a transfer cell has the duty `false` of the transfer's credit. -/
def ringRd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with | .reg _ => barPay d g.1.1 | .dma q => dmaPay m ρ (.dma q) g.1.1
  amount_pos g _ _ _ := by
    rcases g with ⟨t, _ | _⟩
    · exact Nat.one_pos
    · exact N_pos

instance ringRd_payload_storable (g : GSem nD τ sig) (r : ℕ) (d : Bool) :
    BI.Storable (upEmb : UEmb _ 𝕄) ((ringRd (F := F) m ρ).payload g r d) := by
  rcases g with ⟨t, q | q⟩
  · show BI.Storable upEmb (barPay (F := F) d t.1); infer_instance
  · show BI.Storable upEmb (dmaPay m ρ (.dma q) t.1); infer_instance

section Sched
variable (c : Dev nD) (k : CK)

theorem duties_bar : (ringRd (F := F) m ρ).duties (barCell c) 0 = Finset.univ := rfl
theorem duties_snd : (ringRd (F := F) m ρ).duties (sndCell k c) 0 = {false} := rfl
theorem duties_rcv : (ringRd (F := F) m ρ).duties (rcvCell k c) 0 = {false} := rfl
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_snd (d : Bool) : (ringRd (F := F) m ρ).amount (sndCell k c) 0 d = N := rfl
theorem amount_rcv (d : Bool) : (ringRd (F := F) m ρ).amount (rcvCell k c) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_snd : (ringRd (F := F) m ρ).expect (sndCell k c) 0 = N := by
  unfold Schedule.expect Schedule.amountOf; rw [duties_snd, Finset.sum_singleton, amount_snd]
theorem expect_rcv : (ringRd (F := F) m ρ).expect (rcvCell k c) 0 = N := by
  unfold Schedule.expect Schedule.amountOf; rw [duties_rcv, Finset.sum_singleton, amount_rcv]

theorem payload_bar (d : Bool) : (ringRd (F := F) m ρ).payload (barCell c) 0 d = barPay d c := rfl
theorem payload_snd (d : Bool) : (ringRd (F := F) m ρ).payload (sndCell k c) 0 d = sndPay k c := dmaPay_osem m ρ (false, k) c
theorem payload_rcv (d : Bool) : (ringRd (F := F) m ρ).payload (rcvCell k c) 0 d = rcvPay m ρ k c := dmaPay_osem m ρ (true, k) c

/-- The rest of the barrier cell's round, no duty taken: both neighbours' payloads. -/
theorem rest_bar : bigSep ((ringRd (F := F) m ρ).duties (barCell c) 0 \ ∅) (fun d => (ringRd (F := F) m ρ).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_snd : bigSep ((ringRd (F := F) m ρ).duties (sndCell k c) 0 \ ∅) (fun d => (ringRd (F := F) m ρ).payload (sndCell k c) 0 d) = sndPay k c := by
  rw [Finset.sdiff_empty, duties_snd, bigSep_singleton, payload_snd]
theorem rest_rcv : bigSep ((ringRd (F := F) m ρ).duties (rcvCell k c) 0 \ ∅) (fun d => (ringRd (F := F) m ρ).payload (rcvCell k c) 0 d) = rcvPay m ρ k c := by
  rw [Finset.sdiff_empty, duties_rcv, bigSep_singleton, payload_rcv]

end Sched

/-! ## What each core owes; the levels -/

/-- What device `c` owes for its transfers from place `t` of its order on. -/
def owed (c : Dev nD) (t : ℕ) : CellTallies nD τ sig Unit :=
  ∑ k ∈ Finset.univ.filter (fun k : CK => t ≤ tIdx k), tallyAt (rcvCell k (toDev k.1 c)) () N

/-- Issuing transfer `k` pays its receiver's cell. -/
theorem owed_step (c : Dev nD) (k : CK) : owed c (tIdx k) = owed c (tIdx k + 1) + tallyAt (rcvCell k (toDev k.1 c)) () N := by
  unfold owed
  have : Finset.univ.filter (fun k' : CK => tIdx k ≤ tIdx k') = insert k (Finset.univ.filter fun k' : CK => tIdx k + 1 ≤ tIdx k') := by
    ext k'
    simp only [Finset.mem_filter, Finset.mem_univ, true_and, Finset.mem_insert]
    constructor
    · intro h
      by_cases h' : tIdx k = tIdx k'
      · exact .inl (tIdx_inj h').symm
      · exact .inr (by omega)
    · rintro (rfl | h)
      · exact le_refl _
      · omega
  rw [this, Finset.sum_insert (by simp), add_comm]

theorem owed_end (c : Dev nD) : owed c 60 = 0 := by
  unfold owed
  rw [Finset.filter_false_of_mem, Finset.sum_empty]
  rintro ⟨e, s, b⟩ -
  unfold tIdx
  have := s.isLt; have := b.isLt
  have h1 : e.toNat < 2 := by cases e <;> decide
  dsimp only; omega

theorem owed_pos {c : Dev nD} {t : ℕ} {g : GSem nD τ sig} {u : Unit} (h : 0 < owed c t g u) :
    ∃ k : CK, t ≤ tIdx k ∧ g = rcvCell k (toDev k.1 c) := by
  unfold owed at h
  rw [Finset.sum_apply, Finsupp.finset_sum_apply] at h
  obtain ⟨k, hk, hpos⟩ := Finset.exists_ne_zero_of_sum_ne_zero (Nat.pos_iff_ne_zero.mp h)
  refine ⟨k, (Finset.mem_filter.mp hk).2, ?_⟩
  rw [tallyAt_apply] at hpos
  by_contra hn
  exact hpos (if_neg fun h' => hn h'.1)

/-- At launch device `c` owes every transfer and both neighbours' barrier cells one unit. -/
def O₁ (c : Dev nD) : CellTallies nD τ sig Unit := owed c 0 + tallyAt (barCell (toDev false c)) () 1
def O₀ (c : Dev nD) : CellTallies nD τ sig Unit := O₁ c + tallyAt (barCell (toDev true c)) () 1

def L (g : GSem nD τ sig) : Finset Unit := if g.1.2 = .tc then {()} else ∅

/-- Levels: a barrier cell at 1, a receive cell above it in the order of the transfers, everything else at 0. -/
def xlv (q : SemLoc sig) : ℕ := ∑ k : CK, if q = osem (true, k) then 2 + tIdx k else 0
def lv (g : GSem nD τ sig) (_ : Unit) : ℕ := match g.2 with | .reg _ => 1 | .dma q => xlv (.dma q)

theorem lv_bar (c : Dev nD) (u : Unit) : lv (barCell c) u = 1 := rfl
theorem lv_rcv (k : CK) (c : Dev nD) (u : Unit) : lv (rcvCell k c) u = 2 + tIdx k := by
  show xlv (osem (true, k)) = _
  unfold xlv
  rw [Finset.sum_eq_single k, if_pos rfl]
  · intro k' _ hk; rw [if_neg]; intro h; exact hk (congrArg Prod.snd (osem_inj h)).symm
  · intro h; exact absurd (Finset.mem_univ _) h
theorem lv_other (t : Thread nD τ) (q : DmaSem sig) (hq : ∀ k : CK, SemLoc.dma q ≠ osem (true, k)) (u : Unit) : lv (t, .dma q) u = 0 := by
  show xlv (.dma q) = 0
  unfold xlv
  exact Finset.sum_eq_zero fun k _ => if_neg (hq k)
theorem lv_snd (k : CK) (c : Dev nD) (u : Unit) : lv (sndCell k c) u = 0 :=
  lv_other _ _ (fun k' h => by have := congrArg Prod.fst (osem_inj (a₁ := (false, k)) (a₂ := (true, k')) h); cases this) u

theorem L_of_ne (g : GSem nD τ sig) (h : g.1.2 ≠ .tc) : L g = ∅ := if_neg h
theorem L_tc (c : Dev nD) (sm : SemLoc sig) : L ((c : Thread nD τ), sm) = {()} := if_pos rfl

/-- A device may wait on any of its cells below the level of everything it owes. -/
theorem mayWait_of_lt (c : Dev nD) (sm : SemLoc sig) (O : CellTallies nD τ sig Unit) (n : ℕ) (hn : lv ((c : Thread nD τ), sm) () ≤ n)
    (hO : ∀ (g : GSem nD τ sig) (u : Unit), 0 < O g u → (∃ d : Dev nD, g.1 = (d : Thread nD τ)) ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨⟨d, hd⟩, -⟩ := hO g u hg; unfold L; rw [hd, if_pos rfl]; exact Finset.mem_singleton_self _)
    (fun p hp => by rw [Finset.mem_singleton.mp hp]; exact hn)
    (fun g u hg => (hO g u hg).2)

theorem owed_lv {c : Dev nD} {t n : ℕ} (h : n < 2 + t) (g : GSem nD τ sig) (u : Unit) (hg : 0 < owed c t g u) :
    (∃ d : Dev nD, g.1 = (d : Thread nD τ)) ∧ n < lv g u := by
  obtain ⟨k, hk, rfl⟩ := owed_pos hg
  refine ⟨⟨toDev k.1 c, rfl⟩, ?_⟩
  rw [lv_rcv]; omega

theorem O₀_lv {c : Dev nD} (g : GSem nD τ sig) (u : Unit) (hg : 0 < O₀ c g u) :
    (∃ d : Dev nD, g.1 = (d : Thread nD τ)) ∧ 0 < lv g u := by
  unfold O₀ O₁ at hg
  rw [Pi.add_apply, Finsupp.add_apply, Pi.add_apply, Finsupp.add_apply, tallyAt_apply, tallyAt_apply] at hg
  by_cases h1 : g = barCell (toDev true c) ∧ u = ()
  · rw [h1.1]; exact ⟨⟨_, rfl⟩, Nat.one_pos⟩
  by_cases h2 : g = barCell (toDev false c) ∧ u = ()
  · rw [h2.1]; exact ⟨⟨_, rfl⟩, Nat.one_pos⟩
  rw [if_neg h1, if_neg h2] at hg
  exact owed_lv (t := 0) (by omega) g u (by simpa using hg)

end Cert.KernelIdeal.RingProof

end
-- ==== Proof.KIBufs.lean ====
/-
The buffers of the ring held piece by piece, and what a transfer carries.
-/
module

public import proofs.«01_k».proof.Proof.KIProto

@[expose] public section

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces are disjoint and cover their buffers -/

theorem com_disjoint (p q : Fin 15 × Fin 2) (h : p ≠ q) : Disjoint (comRect p.1 p.2).set (comRect q.1 q.2).set := by
  rw [Finset.disjoint_left]
  intro i hi hi'
  have h0 := (Rect.mem_set_unit.mp hi) 0
  have h0' := (Rect.mem_set_unit.mp hi') 0
  have h1 := (Rect.mem_set_unit.mp hi) 1
  have h1' := (Rect.mem_set_unit.mp hi') 1
  change p.1.val ≤ (i 0).val ∧ (i 0).val < p.1.val + 1 at h0
  change q.1.val ≤ (i 0).val ∧ (i 0).val < q.1.val + 1 at h0'
  change 256 * p.2.val ≤ (i 1).val ∧ (i 1).val < 256 * p.2.val + 256 at h1
  change 256 * q.2.val ≤ (i 1).val ∧ (i 1).val < 256 * q.2.val + 256 at h1'
  exact h (Prod.ext (Fin.ext (by omega)) (Fin.ext (by omega)))

theorem com_cover : Finset.univ.biUnion (fun p : Fin 15 × Fin 2 => (comRect p.1 p.2).set) = Finset.univ := by
  ext i
  simp only [Finset.mem_biUnion, Finset.mem_univ, true_and, iff_true]
  have h0 : (i 0).val < 15 := (i 0).isLt
  have h1 : (i 1).val < 512 := (i 1).isLt
  have h2 : (i 2).val < 256 := (i 2).isLt
  refine ⟨(⟨(i 0).val, h0⟩, ⟨(i 1).val / 256, by omega⟩), Rect.mem_set_unit.mpr fun a => ?_⟩
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 256; omega

theorem snd_disjoint (p q : Fin 2) (h : p ≠ q) : Disjoint (sndRect p).set (sndRect q).set := by
  rw [Finset.disjoint_left]
  intro i hi hi'
  have h0 := (Rect.mem_set_unit.mp hi) 0
  have h0' := (Rect.mem_set_unit.mp hi') 0
  change p.val ≤ (i 0).val ∧ (i 0).val < p.val + 1 at h0
  change q.val ≤ (i 0).val ∧ (i 0).val < q.val + 1 at h0'
  exact h (Fin.ext (by omega))

theorem snd_cover : Finset.univ.biUnion (fun p : Fin 2 => (sndRect p).set) = Finset.univ := by
  ext i
  simp only [Finset.mem_biUnion, Finset.mem_univ, true_and, iff_true]
  have h0 : (i 0).val < 2 := (i 0).isLt
  have h1 : (i 1).val < 256 := (i 1).isLt
  have h2 : (i 2).val < 256 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 256; omega
  · show 0 ≤ (i 2).val ∧ (i 2).val < 0 + 256; omega

/-! ## Splitting and joining -/

/-- The landing buffer of direction `e`. -/
abbrev comRef : Bool → Ref sig .tc | false => cc0_scratch2 | true => cc0_scratch3

theorem slot_false (sb : Fin 15 × Fin 2) (c : Dev nD) (f : Buf (Elt F) ((c : Thread nD τ).loc cc0_scratch2)) :
    slot (F := F) (false, sb) c f = ((c : Thread nD τ).loc cc0_scratch2 ↦[(comRect sb.1 sb.2).set]{fullShare} f : sProp 𝕄) := by
  have h : ((comBuf false sb.1 sb.2).view.set : Finset (cc0_scratch2 : Ref sig .tc).ty.Idx) = (comRect sb.1 sb.2).set := (View.set_reshape _ _).trans (View.set_slice_whole cc0_scratch2 (comRect sb.1 sb.2))
  show ((c : Thread nD τ).loc cc0_scratch2 ↦[((comBuf false sb.1 sb.2).view.set : Finset (cc0_scratch2 : Ref sig .tc).ty.Idx)]{fullShare} f : sProp 𝕄) = _
  rw [h]
theorem slot_true (sb : Fin 15 × Fin 2) (c : Dev nD) (f : Buf (Elt F) ((c : Thread nD τ).loc cc0_scratch3)) :
    slot (F := F) (true, sb) c f = ((c : Thread nD τ).loc cc0_scratch3 ↦[(comRect sb.1 sb.2).set]{fullShare} f : sProp 𝕄) := by
  have h : ((comBuf true sb.1 sb.2).view.set : Finset (cc0_scratch3 : Ref sig .tc).ty.Idx) = (comRect sb.1 sb.2).set := (View.set_reshape _ _).trans (View.set_slice_whole cc0_scratch3 (comRect sb.1 sb.2))
  show ((c : Thread nD τ).loc cc0_scratch3 ↦[((comBuf true sb.1 sb.2).view.set : Finset (cc0_scratch3 : Ref sig .tc).ty.Idx)]{fullShare} f : sProp 𝕄) = _
  rw [h]
theorem half_false (b : Fin 2) (c : Dev nD) (f : Buf (Elt F) ((c : Thread nD τ).loc cc0_scratch0)) :
    half (F := F) false b c f = ((c : Thread nD τ).loc cc0_scratch0 ↦[(sndRect b).set]{fullShare} f : sProp 𝕄) := by
  have h : ((sndBuf false b).view.set : Finset (cc0_scratch0 : Ref sig .tc).ty.Idx) = (sndRect b).set := (View.set_reshape _ _).trans (View.set_slice_whole cc0_scratch0 (sndRect b))
  show ((c : Thread nD τ).loc cc0_scratch0 ↦[((sndBuf false b).view.set : Finset (cc0_scratch0 : Ref sig .tc).ty.Idx)]{fullShare} f : sProp 𝕄) = _
  rw [h]
theorem half_true (b : Fin 2) (c : Dev nD) (f : Buf (Elt F) ((c : Thread nD τ).loc cc0_scratch1)) :
    half (F := F) true b c f = ((c : Thread nD τ).loc cc0_scratch1 ↦[(sndRect b).set]{fullShare} f : sProp 𝕄) := by
  have h : ((sndBuf true b).view.set : Finset (cc0_scratch1 : Ref sig .tc).ty.Idx) = (sndRect b).set := (View.set_reshape _ _).trans (View.set_slice_whole cc0_scratch1 (sndRect b))
  show ((c : Thread nD τ).loc cc0_scratch1 ↦[((sndBuf true b).view.set : Finset (cc0_scratch1 : Ref sig .tc).ty.Idx)]{fullShare} f : sProp 𝕄) = _
  rw [h]

/-- A landing buffer held whole at some contents is held slot by slot; -/
theorem com_split (e : Bool) (c : Dev nD) :
    iprop(∃ f, ((c : Thread nD τ).loc (comRef e)) ↦{fullShare} f) ⊢ (bigSep Finset.univ fun sb : Fin 15 × Fin 2 => iprop(∃ f, slot (F := F) (e, sb) c f) : sProp 𝕄) := by
  cases e
  · refine exists_elim fun f => ?_
    rw [Idealize.ShloMosaic.Ring.pointsTo_blocks (ℓ := (c : Thread nD τ).loc cc0_scratch2) (fun p : Fin 15 × Fin 2 => (comRect p.1 p.2).set) com_disjoint com_cover f]
    exact bigSep_mono fun sb _ => (Entails.of_eq (slot_false sb c f).symm).trans (exists_intro f)
  · refine exists_elim fun f => ?_
    rw [Idealize.ShloMosaic.Ring.pointsTo_blocks (ℓ := (c : Thread nD τ).loc cc0_scratch3) (fun p : Fin 15 × Fin 2 => (comRect p.1 p.2).set) com_disjoint com_cover f]
    exact bigSep_mono fun sb _ => (Entails.of_eq (slot_true sb c f).symm).trans (exists_intro f)

/-- and back. -/
theorem com_join (e : Bool) (c : Dev nD) (f₀ : Buf (Elt F) ((c : Thread nD τ).loc (comRef e))) :
    (bigSep Finset.univ fun sb : Fin 15 × Fin 2 => iprop(∃ f, slot (F := F) (e, sb) c f) : sProp 𝕄) ⊢ iprop(∃ f, ((c : Thread nD τ).loc (comRef e)) ↦{fullShare} f) := by
  cases e
  · exact (bigSep_mono fun sb _ => exists_mono fun f => Entails.of_eq (slot_false sb c f)).trans
      (Idealize.ShloMosaic.Ring.pointsTo_blocks_join_exists (ℓ := (c : Thread nD τ).loc cc0_scratch2) (fun p : Fin 15 × Fin 2 => (comRect p.1 p.2).set) com_disjoint com_cover f₀)
  · exact (bigSep_mono fun sb _ => exists_mono fun f => Entails.of_eq (slot_true sb c f)).trans
      (Idealize.ShloMosaic.Ring.pointsTo_blocks_join_exists (ℓ := (c : Thread nD τ).loc cc0_scratch3) (fun p : Fin 15 × Fin 2 => (comRect p.1 p.2).set) com_disjoint com_cover f₀)

/-- A send buffer held whole at some contents is held half by half; -/
theorem snd_split (e : Bool) (c : Dev nD) :
    iprop(∃ f, ((c : Thread nD τ).loc (sndRef e)) ↦{fullShare} f) ⊢ (bigSep Finset.univ fun b : Fin 2 => iprop(∃ f, half (F := F) e b c f) : sProp 𝕄) := by
  cases e
  · refine exists_elim fun f => ?_
    rw [Idealize.ShloMosaic.Ring.pointsTo_blocks (ℓ := (c : Thread nD τ).loc cc0_scratch0) (fun p : Fin 2 => (sndRect p).set) snd_disjoint snd_cover f]
    exact bigSep_mono fun b _ => (Entails.of_eq (half_false b c f).symm).trans (exists_intro f)
  · refine exists_elim fun f => ?_
    rw [Idealize.ShloMosaic.Ring.pointsTo_blocks (ℓ := (c : Thread nD τ).loc cc0_scratch1) (fun p : Fin 2 => (sndRect p).set) snd_disjoint snd_cover f]
    exact bigSep_mono fun b _ => (Entails.of_eq (half_true b c f).symm).trans (exists_intro f)

/-- and back. -/
theorem snd_join (e : Bool) (c : Dev nD) (f₀ : Buf (Elt F) ((c : Thread nD τ).loc (sndRef e))) :
    (bigSep Finset.univ fun b : Fin 2 => iprop(∃ f, half (F := F) e b c f) : sProp 𝕄) ⊢ iprop(∃ f, ((c : Thread nD τ).loc (sndRef e)) ↦{fullShare} f) := by
  cases e
  · exact (bigSep_mono fun b _ => exists_mono fun f => Entails.of_eq (half_false b c f)).trans
      (Idealize.ShloMosaic.Ring.pointsTo_blocks_join_exists (ℓ := (c : Thread nD τ).loc cc0_scratch0) (fun p : Fin 2 => (sndRect p).set) snd_disjoint snd_cover f₀)
  · exact (bigSep_mono fun b _ => exists_mono fun f => Entails.of_eq (half_true b c f)).trans
      (Idealize.ShloMosaic.Ring.pointsTo_blocks_join_exists (ℓ := (c : Thread nD τ).loc cc0_scratch1) (fun p : Fin 2 => (sndRect p).set) snd_disjoint snd_cover f₀)

/-! ## What a transfer carries -/

theorem shapeCast_inj {s t : Shape} {α : Type} (h : s.ShapeCasts t) {x y : s.Idx → α} (hxy : shapeCast t x h = shapeCast t y h) : x = y := by
  funext i
  have := congrFun hxy ((Shape.reshapeEquiv h).symm i)
  unfold shapeCast at this
  rwa [Equiv.apply_symm_apply] at this

theorem casts : S1x256x256.ShapeCasts S256x256 := by decide

/-- The accesses the stores and loads of a send half or a slot make stay inside it. -/
theorem snd_set (e : Bool) (b : Fin 2) : ((sndBuf e b).view.set : Finset (sndM e).view.ty.Idx) = ((sndM e).view.slice (sndRect b)).set := View.set_reshape _ _
theorem com_set (e : Bool) (s : Fin 15) (b : Fin 2) : ((comBuf e s b).view.set : Finset (comM e).view.ty.Idx) = ((comM e).view.slice (comRect s b)).set := View.set_reshape _ _
theorem snd_access (e : Bool) (b : Fin 2) : ((sndM e).access (sndRect b)).setOn Finset.univ ⊆ ((sndBuf e b).view.set : Finset (sndM e).view.ty.Idx) := by
  rw [snd_set]; exact subset_rfl
theorem snd_loads (e : Bool) (b : Fin 2) : (sndM e).view.setOn (sndRect b).toLoadRect.set ⊆ ((sndBuf e b).view.set : Finset (sndM e).view.ty.Idx) := by
  rw [snd_set, View.set_slice]; exact subset_rfl
theorem com_loads (e : Bool) (s : Fin 15) (b : Fin 2) : (comM e).view.setOn (comRect s b).toLoadRect.set ⊆ ((comBuf e s b).view.set : Finset (comM e).view.ty.Idx) := by
  rw [com_set, View.set_slice]; exact subset_rfl

/-- A transfer of a send half just stored into leaves in the slot the value stored. -/
theorem slot_landed (k : CK) (c c' : Dev nD) (v : FVec F S1x256x256 .f32)
    (f : Buf (Elt F) ((sndBuf k.1 k.2.2).view.loc (c : Thread nD τ))) (fd : Buf (Elt F) ((comBuf k.1 k.2.1 k.2.2).view.loc (c' : Thread nD τ))) :
    slotVal k c' ((comBuf k.1 k.2.1 k.2.2).view.write (Elt F) fd
      ((sndBuf k.1 k.2.2).view.read (Elt F) (((sndM k.1).access (sndRect k.2.2)).write (Elt F) f v Finset.univ)) Finset.univ) = v := by
  refine shapeCast_inj casts ?_
  refine (show _ = (comBuf k.1 k.2.1 k.2.2).view.read (Elt F) _ from
    (Memref.read_squeeze_slice (comM k.1) (comRect k.2.1 k.2.2) (fun _ => rfl) squeezes_S1x256x256_S256x256 casts _).symm).trans ?_
  rw [View.read_write_univ]
  refine (Memref.read_squeeze_slice (sndM k.1) (sndRect k.2.2) (fun _ => rfl) squeezes_S1x256x256_S256x256 casts _).trans ?_
  exact congrArg (fun x => shapeCast S256x256 x casts) (View.read_write_univ (v := (sndM k.1).access (sndRect k.2.2)) f v)

end Cert.KernelIdeal.RingProof

end
-- ==== Proof.KISteps.lean ====
/-
Each operation of the ring once: what it needs and what it leaves, for any direction, step and row half.
-/
module

public import proofs.«01_k».proof.Proof.KIBufs

@[expose] public section

set_option maxRecDepth 8000

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The triple of a program on device `c`. -/
abbrev WP (c : Dev nD) (k : KProg F) (Kt : PUnit → sProp 𝕄) : sProp 𝕄 :=
  wp frame (wpE (defs₀ (F := F)) 𝒱₀ (c : Thread nD τ) none) Set.univ k Kt

/-- The level facts. -/
def levs : sProp 𝕄 := levAts L lv
instance levs_persistent : BI.Persistent (levs (F := F)) := by unfold levs; infer_instance

/-- What every device knows: every cell's invariant (under the names `K`), that every cell has reached round 0, the levels. -/
def ctx (K : Dev nD × Option XK → ℕ) : sProp 𝕄 :=
  iprop((bigSep Finset.univ fun ck : Dev nD × Option XK => cellInv ER (ringRd m ρ) (K ck) (kcell ck))
    ∗ (bigSep Finset.univ fun ck : Dev nD × Option XK => reached ER (kcell ck) 0) ∗ levs)

instance ctx_persistent (K : Dev nD × Option XK → ℕ) : BI.Persistent (ctx m ρ K) := by unfold ctx; infer_instance

section
variable (K : Dev nD × Option XK → ℕ)

theorem ctx_inv (ck : Dev nD × Option XK) : ctx m ρ K ⊢ cellInv ER (ringRd m ρ) (K ck) (kcell ck) := by
  unfold ctx; iintro ⟨H, -, -⟩
  iapply (show (bigSep Finset.univ fun ck : Dev nD × Option XK => (cellInv ER (ringRd m ρ) (K ck) (kcell ck) : sProp 𝕄)) ⊢ cellInv ER (ringRd m ρ) (K ck) (kcell ck) from
    bigSep_elim (Finset.mem_univ ck)); iexact H
theorem ctx_reached (ck : Dev nD × Option XK) : ctx m ρ K ⊢ reached ER (kcell ck) 0 := by
  unfold ctx; iintro ⟨-, H, -⟩
  iapply (show (bigSep Finset.univ fun ck : Dev nD × Option XK => (reached ER (kcell ck) 0 : sProp 𝕄)) ⊢ reached ER (kcell ck) 0 from
    bigSep_elim (Finset.mem_univ ck)); iexact H
theorem ctx_lev : ctx m ρ K ⊢ levs (F := F) := by unfold ctx; iintro ⟨-, -, H⟩; iexact H

theorem ctx_snd (k : CK) (c : Dev nD) : ctx m ρ K ⊢ cellInv ER (ringRd m ρ) (K (c, some (false, k))) (sndCell k c) := ctx_inv m ρ K (c, some (false, k))
theorem ctx_rcv (k : CK) (c : Dev nD) : ctx m ρ K ⊢ cellInv ER (ringRd m ρ) (K (c, some (true, k))) (rcvCell k c) := ctx_inv m ρ K (c, some (true, k))
theorem ctx_bar (c : Dev nD) : ctx m ρ K ⊢ cellInv ER (ringRd m ρ) (K (c, none)) (barCell c) := ctx_inv m ρ K (c, none)
theorem reached_snd (k : CK) (c : Dev nD) : ctx m ρ K ⊢ reached ER (sndCell k c) 0 := ctx_reached m ρ K (c, some (false, k))
theorem reached_rcv (k : CK) (c : Dev nD) : ctx m ρ K ⊢ reached ER (rcvCell k c) 0 := ctx_reached m ρ K (c, some (true, k))
theorem reached_bar (c : Dev nD) : ctx m ρ K ⊢ reached ER (barCell c) 0 := ctx_reached m ρ K (c, none)

/-- What device `c` owes, its past waits unstated. -/
def owesE (c : Dev nD) (O : CellTallies nD τ sig Unit) : sProp 𝕄 := iprop(∃ W, owes (c : Thread nD τ) O W)

/-- The device's staged block of the operand; -/
def xPts (c : Dev nD) : sProp 𝕄 := ((c : Thread nD τ).loc cc0_stg0_0) ↦{fullShare} xstg m ρ c
/-- its staged scale; -/
def gPts (c : Dev nD) : sProp 𝕄 := ((c : Thread nD τ).loc cc0_stg1_0) ↦{fullShare} gstg m ρ c
/-- the result's staging buffer. -/
def oPts (c : Dev nD) (f : (cc0_stg2_0 : Ref sig .tc).ty.Contents (Elt F)) : sProp 𝕄 := ((c : Thread nD τ).loc cc0_stg2_0) ↦{fullShare} f

variable (c : Dev nD)

theorem wait_snd_level (k : CK) (t : ℕ) : ctx m ρ K ⊢ MayWait (c : Thread nD τ) (.dma (sndSem k.1 k.2.1 k.2.2)) () (owed c t) :=
  (ctx_lev m ρ K).trans (mayWait_of_lt c (.dma (sndSem k.1 k.2.1 k.2.2)) (owed c t) 0 (Nat.le_of_eq (lv_snd k c ())) (fun g u hg => owed_lv (by omega) g u hg))
theorem wait_rcv_level (k : CK) (t : ℕ) (ht : tIdx k < t) : ctx m ρ K ⊢ MayWait (c : Thread nD τ) (.dma (rcvSem k.1 k.2.1 k.2.2)) () (owed c t) :=
  (ctx_lev m ρ K).trans (mayWait_of_lt c (.dma (rcvSem k.1 k.2.1 k.2.2)) (owed c t) (2 + tIdx k) (Nat.le_of_eq (lv_rcv k c ())) (fun g u hg => owed_lv (by omega) g u hg))

/-- Waiting for a transfer's departure gives its send half back and closes its send cell. -/
theorem wp_waitSnd (Kt : PUnit → sProp 𝕄) (k : CK) (t : ℕ) (p : KProg F) :
    iprop(ctx m ρ K ∗ owesE c (owed c t) ∗ cred (tallyAt (sndCell k c) () N) ∗ atPos ER (sndCell k c) 0 ∅ 0)
      ⊢ iprop((owesE c (owed c t) ∗ semVal (sndCell k c) 0 ∗ sndPay k c -∗ WP c p Kt) -∗ WP c (opWaitSnd k.1 k.2.1 k.2.2 p) Kt) := by
  unfold owesE
  iintro ⟨#Hctx, ⟨%W, HO⟩, Hc, Hat⟩ Hk
  unfold opWaitSnd
  iapply (Rounds.wp_wait_rest_token 𝒱₀ ER (ringRd m ρ) (c : Thread nD τ) none (κ := K (c, some (false, k)))
      (wpE_waitDma2_eq 𝒱₀ (c : Thread nD τ) none Set.univ (sem := sndSem k.1 k.2.1 k.2.2) (src := comBuf k.1 k.2.1 k.2.2) (dst := sndBuf k.1 k.2.2)
        (hsrc := (View.wordExact_bits rfl).reshape _ _) (hdst := (View.wordExact_bits rfl).reshape _ _))
      (Set.mem_univ _) () (O := owed c t) (W := W) (R := 0) (m := 0) (T := ∅)
      (by rw [Nat.zero_add, expect_snd, snd_credit])) $$ [HO Hc Hat]
  · isplitr; · iapply (ctx_snd m ρ K k c); iexact Hctx
    isplitl [Hc]; · rw [snd_credit]; iexact Hc
    isplitl [HO]; · iexact HO
    isplitr; · iapply (wait_snd_level m ρ K c k t); iexact Hctx
    iexact Hat
  iintro ⟨HO, Hat, -, Hpay⟩
  ihave Hpay := (Entails.of_eq (rest_snd m ρ c k)) $$ Hpay
  imod (Rounds.cell_close ER (ringRd m ρ) (Set.mem_univ (K (c, some (false, k)))) (fun h => h) (R := 0 + 1) (duties_later m ρ (sndCell k c))) $$ [Hat] with Hz
  · isplitr; · iapply (ctx_snd m ρ K k c); iexact Hctx
    iexact Hat
  iapply Hk
  isplitl [HO]; · iexists _; iexact HO
  isplitl [Hz] <;> iassumption

/-- Waiting for a transfer into the device, all transfers up to it in the order being issued, gives the slot landed in and
    closes its receive cell. -/
theorem wp_waitRcv (Kt : PUnit → sProp 𝕄) (k : CK) (t : ℕ) (ht : tIdx k < t) (p : KProg F) :
    iprop(ctx m ρ K ∗ owesE c (owed c t) ∗ cred (tallyAt (rcvCell k c) () N) ∗ atPos ER (rcvCell k c) 0 ∅ 0)
      ⊢ iprop((owesE c (owed c t) ∗ semVal (rcvCell k c) 0 ∗ rcvPay m ρ k c -∗ WP c p Kt) -∗ WP c (opWaitRcv k.1 k.2.1 k.2.2 p) Kt) := by
  unfold owesE
  iintro ⟨#Hctx, ⟨%W, HO⟩, Hc, Hat⟩ Hk
  unfold opWaitRcv
  iapply (Rounds.wp_wait_rest_token 𝒱₀ ER (ringRd m ρ) (c : Thread nD τ) none (κ := K (c, some (true, k)))
      (wpE_waitDma2_eq 𝒱₀ (c : Thread nD τ) none Set.univ (sem := rcvSem k.1 k.2.1 k.2.2) (src := sndBuf k.1 k.2.2) (dst := comBuf k.1 k.2.1 k.2.2)
        (hsrc := (View.wordExact_bits rfl).reshape _ _) (hdst := (View.wordExact_bits rfl).reshape _ _))
      (Set.mem_univ _) () (O := owed c t) (W := W) (R := 0) (m := 0) (T := ∅)
      (by rw [Nat.zero_add, expect_rcv, com_credit])) $$ [HO Hc Hat]
  · isplitr; · iapply (ctx_rcv m ρ K k c); iexact Hctx
    isplitl [Hc]; · rw [com_credit]; iexact Hc
    isplitl [HO]; · iexact HO
    isplitr; · iapply (wait_rcv_level m ρ K c k t ht); iexact Hctx
    iexact Hat
  iintro ⟨HO, Hat, -, Hpay⟩
  ihave Hpay := (Entails.of_eq (rest_rcv m ρ c k)) $$ Hpay
  imod (Rounds.cell_close ER (ringRd m ρ) (Set.mem_univ (K (c, some (true, k)))) (fun h => h) (R := 0 + 1) (duties_later m ρ (rcvCell k c))) $$ [Hat] with Hz
  · isplitr; · iapply (ctx_rcv m ρ K k c); iexact Hctx
    iexact Hat
  iapply Hk
  isplitl [HO]; · iexists _; iexact HO
  isplitl [Hz] <;> iassumption

/-- A load of the operand's block; -/
theorem wp_loadX (Kt : PUnit → sProp 𝕄) (e : Bool) (s : Fin 16) (b : Fin 2) (p : Vec F S1x256x256 .f32 → KProg F) :
    xPts m ρ c ⊢ iprop((xPts m ρ c -∗ WP c (p (xblk m ρ e c s b)) Kt) -∗ WP c (opLoadX e c s b p) Kt) := by
  unfold xPts opLoadX
  iintro H Hk
  iapply (wp_load 𝒱₀ (c : Thread nD τ) none Set.univ (m := xM) (Finset.subset_univ _)) $$ H; iintro H
  iapply Hk; iexact H
/-- of the scale; -/
theorem wp_loadG (Kt : PUnit → sProp 𝕄) (p : Vec F S512 .f32 → KProg F) :
    gPts m ρ c ⊢ iprop((gPts m ρ c -∗ WP c (p (gval m ρ c)) Kt) -∗ WP c (opLoadG p) Kt) := by
  unfold gPts opLoadG
  iintro H Hk
  iapply (wp_load 𝒱₀ (c : Thread nD τ) none Set.univ (m := gM) (Finset.subset_univ _)) $$ H; iintro H
  iapply Hk; iexact H

theorem half_eq (e : Bool) (b : Fin 2) (f : Buf (Elt F) ((sndBuf e b).view.loc (c : Thread nD τ))) :
    half e b c f = ((sndM e).view.loc (c : Thread nD τ) ↦[((sndBuf e b).view.set : Finset (sndM e).view.ty.Idx)]{fullShare} f : sProp 𝕄) := rfl
theorem slot_eq (k : CK) (f : Buf (Elt F) ((comBuf k.1 k.2.1 k.2.2).view.loc (c : Thread nD τ))) :
    slot k c f = ((comM k.1).view.loc (c : Thread nD τ) ↦[((comBuf k.1 k.2.1 k.2.2).view.set : Finset (comM k.1).view.ty.Idx)]{fullShare} f : sProp 𝕄) := rfl

/-- of a landing slot. -/
theorem wp_loadCom (Kt : PUnit → sProp 𝕄) (k : CK) (f) (p : Vec F S1x256x256 .f32 → KProg F) :
    slot k c f ⊢ iprop((slot k c f -∗ WP c (p (slotVal k c f)) Kt) -∗ WP c (opLoadCom k.1 k.2.1 k.2.2 p) Kt) := by
  rw [slot_eq]; unfold opLoadCom
  iintro H Hk
  iapply (wp_load 𝒱₀ (c : Thread nD τ) none Set.univ (m := comM k.1) (f := f) (com_loads k.1 k.2.1 k.2.2)) $$ H; iintro H
  iapply Hk; iexact H

/-- A send half after `v` is stored into it. -/
def stored (e : Bool) (b : Fin 2) (v : FVec F S1x256x256 .f32) : sProp 𝕄 :=
  iprop(∃ f, half e b c (((sndM e).access (sndRect b)).write (Elt F) f v Finset.univ))

/-- A store into a send half. -/
theorem wp_storeSnd (Kt : PUnit → sProp 𝕄) (e : Bool) (b : Fin 2) (v : FVec F S1x256x256 .f32) (p : KProg F) :
    iprop(∃ f, half (F := F) e b c f) ⊢ iprop((stored c e b v -∗ WP c p Kt) -∗ WP c (opStoreSnd e b v p) Kt) := by
  refine exists_elim fun f => ?_
  rw [half_eq]; unfold opStoreSnd
  iintro H Hk
  iapply (wp_load 𝒱₀ (c : Thread nD τ) none Set.univ (m := sndM e) (f := f) (snd_loads e b)) $$ H; iintro H
  iapply (wp_store 𝒱₀ (c : Thread nD τ) none Set.univ (m := sndM e) (r := sndRect b) (f := f) (Mk := Finset.univ) (snd_access e b)) $$ H; iintro H
  iapply Hk
  unfold stored
  iexists f; iapply (Entails.of_eq (half_eq c e b _).symm); iexact H

/-- Issuing transfer `k` of the partial sum just stored. -/
theorem wp_send (Kt : PUnit → sProp 𝕄) (k : CK) (v : FVec F S1x256x256 .f32) (hv : v = acc m ρ k.1 k.2.2 k.2.1.val c) (p : KProg F) :
    iprop(ctx m ρ K ∗ stored c k.1 k.2.2 v ∗ (∃ f, slot (F := F) k (toDev k.1 c) f) ∗ owesE c (owed c (tIdx k))
        ∗ dutyTok ER (sndCell k c) 0 false ∗ dutyTok ER (rcvCell k (toDev k.1 c)) 0 false)
      ⊢ iprop((cred (tallyAt (sndCell k c) () N) ∗ owesE c (owed c (tIdx k + 1)) -∗ WP c p Kt) -∗ WP c (opSend k.1 c k.2.1 k.2.2 p) Kt) := by
  unfold owesE stored
  iintro ⟨#Hctx, ⟨%f, Hh⟩, ⟨%fd, Hs⟩, ⟨%W, HO⟩, Ht1, Ht2⟩ Hk
  unfold half slot opSend
  iapply (Rounds.wp_send_pointsTo 𝒱₀ ER (ringRd m ρ) (c : Thread nD τ) none (κ₁ := K (c, some (false, k))) (κ₂ := K (toDev k.1 c, some (true, k)))
    (r₁ := 0) (r₂ := 0) (d₁ := false) (d₂ := false) (fd := fd)
    (by rw [duties_snd]; exact Finset.mem_singleton_self _) (by rw [duties_rcv]; exact Finset.mem_singleton_self _)
    () () N ((View.amount_dma _ _).trans (com_credit k.1 k.2.1 k.2.2)) (amount_snd m ρ c k false) (amount_rcv m ρ (toDev k.1 c) k false) (owed c (tIdx k + 1)) (owed_step c k) (W := W)
    (by rw [payload_snd]; unfold sndPay half; exact exists_intro _)
    (by
      rw [payload_rcv]; unfold rcvPay slot
      iintro H; iexists _
      isplitr
      · ipureintro
        rw [slot_landed k c (toDev k.1 c) v f fd, toDev_inv k.1 c, hv]
      iexact H)) $$ [Hh Hs HO Ht1 Ht2]
  · isplitr; · iapply (ctx_snd m ρ K k c); iexact Hctx
    isplitr; · iapply (ctx_rcv m ρ K k (toDev k.1 c)); iexact Hctx
    isplitl [Hh]; · iexact Hh
    isplitl [Hs]; · iexact Hs
    isplitl [HO]; · iexact HO
    isplitl [Ht1]; · iexact Ht1
    isplitr; · iapply (reached_snd m ρ K k c); iexact Hctx
    isplitl [Ht2]; · iexact Ht2
    iapply (reached_rcv m ρ K k (toDev k.1 c)); iexact Hctx
  iintro ⟨Hc, HO⟩
  iapply Hk
  isplitl [Hc]; · iexact Hc
  iexists W; iexact HO

end

end Cert.KernelIdeal.RingProof

end
-- ==== Proof.KILoop.lean ====
/-
The ring's steps chained: the state of all transfers after `t` sends, and each step moving it on by one.
-/
module

public import proofs.«01_k».proof.Proof.KISteps

@[expose] public section

set_option maxRecDepth 8000

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One member of a separating conjunction taken out. -/
theorem take_out {I : Type} [DecidableEq I] {S : Finset I} {i : I} (h : i ∈ S) {Φ : I → sProp 𝕄} : bigSep S Φ = iprop(Φ i ∗ bigSep (S.erase i) Φ) := bigSep_erase h

/-! ## The stages of a transfer, as its sender and the receiver of the like transfer holds them -/

/-- Before the send, apart from the neighbour's slot: the tokens of both duties the send pays, the positions at the device's
    own two cells, the credit of its own landing. -/
def stA₀ (k : CK) (c : Dev nD) : sProp 𝕄 :=
  iprop(dutyTok ER (sndCell k c) 0 false ∗ dutyTok ER (rcvCell k (toDev k.1 c)) 0 false
    ∗ atPos ER (sndCell k c) 0 ∅ 0 ∗ atPos ER (rcvCell k c) 0 ∅ 0 ∗ cred (tallyAt (rcvCell k c) () N))
/-- Before the send. -/
def stA (k : CK) (c : Dev nD) : sProp 𝕄 := iprop(stA₀ (F := F) k c ∗ ∃ f, slot (F := F) k (toDev k.1 c) f)
/-- In flight. -/
def stB (k : CK) (c : Dev nD) : sProp 𝕄 :=
  iprop(cred (tallyAt (sndCell k c) () N) ∗ atPos ER (sndCell k c) 0 ∅ 0 ∗ atPos ER (rcvCell k c) 0 ∅ 0 ∗ cred (tallyAt (rcvCell k c) () N))
/-- The transfer into the device landed, its own not yet waited for. -/
def stD (k : CK) (c : Dev nD) : sProp 𝕄 :=
  iprop(cred (tallyAt (sndCell k c) () N) ∗ atPos ER (sndCell k c) 0 ∅ 0 ∗ semVal (rcvCell k c) 0 ∗ ∃ f, slot (F := F) k c f)
/-- Done: both cells closed at zero. -/
def stC (k : CK) (c : Dev nD) : sProp 𝕄 :=
  iprop(semVal (sndCell k c) 0 ∗ semVal (rcvCell k c) 0 ∗ ∃ f, slot (F := F) k c f)

/-- The stage of transfer `k` after `t` sends: the four last sends are in flight, those before are done. -/
def stage (c : Dev nD) (t : ℕ) (k : CK) : sProp 𝕄 :=
  if t ≤ tIdx k then stA (F := F) k c else if t ≤ tIdx k + 4 then stB (F := F) k c else stC (F := F) k c
def state (c : Dev nD) (t : ℕ) : sProp 𝕄 := bigSep Finset.univ (stage (F := F) c t)

theorem stage_A (c : Dev nD) {t : ℕ} {k : CK} (h : t ≤ tIdx k) : stage (F := F) c t k = stA k c := if_pos h
theorem stage_B (c : Dev nD) {t : ℕ} {k : CK} (h : tIdx k < t) (h' : t ≤ tIdx k + 4) : stage (F := F) c t k = stB k c := by
  unfold stage; rw [if_neg (by omega), if_pos h']
theorem stage_C (c : Dev nD) {t : ℕ} {k : CK} (h : tIdx k + 4 < t) : stage (F := F) c t k = stC k c := by
  unfold stage; rw [if_neg (by omega), if_neg (by omega)]

/-- One of the first four sends puts its transfer in flight. -/
theorem state_first (c : Dev nD) (k : CK) (h : tIdx k < 4) :
    state (F := F) c (tIdx k) ⊢ iprop(stA k c ∗ (stB k c -∗ state (F := F) c (tIdx k + 1))) := by
  unfold state
  rw [take_out (Finset.mem_univ k), take_out (Finset.mem_univ k) (Φ := stage c (tIdx k + 1)), stage_A c (le_refl _), stage_B c (t := tIdx k + 1) (by omega) (by omega)]
  have hr : bigSep (Finset.univ.erase k) (stage (F := F) c (tIdx k + 1)) = bigSep (Finset.univ.erase k) (stage (F := F) c (tIdx k)) :=
    bigSep_congr fun k' hk' => by
      have hne : tIdx k' ≠ tIdx k := fun h => (Finset.mem_erase.mp hk').1 (tIdx_inj h)
      rcases Nat.lt_or_ge (tIdx k') (tIdx k) with h1 | h1
      · rw [stage_B c (t := tIdx k + 1) (by omega) (by omega), stage_B c h1 (by omega)]
      · rw [stage_A c (t := tIdx k + 1) (by omega), stage_A c h1]
  rw [hr]
  iintro ⟨HA, HR⟩
  isplitl [HA]; · iexact HA
  iintro HB
  isplitl [HB] <;> iassumption

/-- A later send puts its transfer in flight, the transfer of the step before being done by then. -/
theorem state_step (c : Dev nD) (k k' : CK) (h : tIdx k' = tIdx k + 4) :
    state (F := F) c (tIdx k') ⊢ iprop(stA k' c ∗ stB k c ∗ (stB k' c ∗ stC k c -∗ state (F := F) c (tIdx k' + 1))) := by
  unfold state
  have hk : k ∈ Finset.univ.erase k' := Finset.mem_erase.mpr ⟨fun hh => by rw [hh] at h; omega, Finset.mem_univ _⟩
  rw [take_out (Finset.mem_univ k'), take_out hk, take_out (Finset.mem_univ k') (Φ := stage c (tIdx k' + 1)), take_out hk (Φ := stage c (tIdx k' + 1)),
    stage_A c (le_refl _), stage_B c (t := tIdx k' + 1) (k := k') (by omega) (by omega), stage_B c (t := tIdx k') (k := k) (by omega) (by omega),
    stage_C c (t := tIdx k' + 1) (k := k) (by omega)]
  have hr : bigSep ((Finset.univ.erase k').erase k) (stage (F := F) c (tIdx k' + 1)) = bigSep ((Finset.univ.erase k').erase k) (stage (F := F) c (tIdx k')) :=
    bigSep_congr fun j hj => by
      have h1 : tIdx j ≠ tIdx k := fun h => (Finset.mem_erase.mp hj).1 (tIdx_inj h)
      have h2 : tIdx j ≠ tIdx k' := fun h => (Finset.mem_erase.mp (Finset.mem_erase.mp hj).2).1 (tIdx_inj h)
      rcases Nat.lt_or_ge (tIdx j) (tIdx k') with h3 | h3
      · rcases Nat.lt_or_ge (tIdx j + 4) (tIdx k') with h4 | h4
        · rw [stage_C c (t := tIdx k' + 1) (by omega), stage_C c h4]
        · rw [stage_B c (t := tIdx k' + 1) (by omega) (by omega), stage_B c h3 h4]
      · rw [stage_A c (t := tIdx k' + 1) (by omega), stage_A c h3]
  rw [hr]
  iintro ⟨HA, HB, HR⟩
  isplitl [HA]; · iexact HA
  isplitl [HB]; · iexact HB
  iintro ⟨HB, HC⟩
  isplitl [HB]; · iexact HB
  isplitl [HC] <;> iassumption

/-- The four transfers of the last step. -/
abbrev lastK (e : Bool) (b : Fin 2) : CK := (e, 14, b)

/-- After all sends: the four transfers of the last step are in flight; once they are done, everything is. -/
theorem state_last (c : Dev nD) :
    state (F := F) c 60 ⊢ iprop(stB (lastK false 0) c ∗ stB (lastK true 0) c ∗ stB (lastK false 1) c ∗ stB (lastK true 1) c
      ∗ (stC (lastK false 0) c ∗ stC (lastK true 0) c ∗ stC (lastK false 1) c ∗ stC (lastK true 1) c -∗ bigSep Finset.univ fun k : CK => stC (F := F) k c)) := by
  unfold state
  have h0 : lastK false 0 ∈ (Finset.univ : Finset CK) := Finset.mem_univ _
  have h1 : lastK true 0 ∈ (Finset.univ : Finset CK).erase (lastK false 0) := by decide
  have h2 : lastK false 1 ∈ ((Finset.univ : Finset CK).erase (lastK false 0)).erase (lastK true 0) := by decide
  have h3 : lastK true 1 ∈ (((Finset.univ : Finset CK).erase (lastK false 0)).erase (lastK true 0)).erase (lastK false 1) := by decide
  rw [take_out h0, take_out h1, take_out h2, take_out h3,
    take_out h0 (Φ := fun k : CK => stC (F := F) k c), take_out h1 (Φ := fun k : CK => stC (F := F) k c), take_out h2 (Φ := fun k : CK => stC (F := F) k c),
    take_out h3 (Φ := fun k : CK => stC (F := F) k c),
    stage_B c (t := 60) (k := lastK false 0) (by decide) (by decide), stage_B c (t := 60) (k := lastK true 0) (by decide) (by decide),
    stage_B c (t := 60) (k := lastK false 1) (by decide) (by decide), stage_B c (t := 60) (k := lastK true 1) (by decide) (by decide)]
  have hlt : ∀ k : CK, k ∈ ((((Finset.univ : Finset CK).erase (lastK false 0)).erase (lastK true 0)).erase (lastK false 1)).erase (lastK true 1) → tIdx k + 4 < 60 := by decide +kernel
  rw [bigSep_congr (Φ := stage (F := F) c 60) (Ψ := fun k : CK => stC (F := F) k c) fun k hk => stage_C c (hlt k hk)]
  iintro ⟨H0, H1, H2, H3, HR⟩
  isplitl [H0]; · iexact H0
  isplitl [H1]; · iexact H1
  isplitl [H2]; · iexact H2
  isplitl [H3]; · iexact H3
  iintro ⟨H0, H1, H2, H3⟩
  isplitl [H0]; · iexact H0
  isplitl [H1]; · iexact H1
  isplitl [H2]; · iexact H2
  isplitl [H3] <;> iassumption

/-! ## The steps -/

section
variable (K : Dev nD × Option XK → ℕ) (c : Dev nD)

/-- What a device holds after `t` sends. -/
def run (t : ℕ) : sProp 𝕄 := iprop(state (F := F) c t ∗ xPts m ρ c ∗ owesE (F := F) c (owed c t))

/-- A later step moves the run on by one send. -/
theorem wp_step (Kt : PUnit → sProp 𝕄) (e : Bool) (s : Fin 14) (b : Fin 2) (p : KProg F) (t : ℕ) (ht : t = tIdx (e, s.succ, b)) :
    iprop(ctx m ρ K ∗ run m ρ c t) ⊢ iprop((run m ρ c (t + 1) -∗ WP c p Kt) -∗ WP c (step e c s b p) Kt) := by
  subst ht
  have hi : tIdx (e, s.succ, b) = tIdx (e, s.castSucc, b) + 4 := by unfold tIdx; simp only [Fin.val_succ, Fin.val_castSucc]; omega
  unfold run
  iintro ⟨#Hctx, Hst, Hx, HO⟩ Hk
  ihave Hst := (state_step (F := F) c (e, s.castSucc, b) (e, s.succ, b) hi) $$ Hst
  unfold stA stA₀
  icases Hst with ⟨⟨⟨Ht1, Ht2, Ha1, Ha2, Hc2⟩, Hsl⟩, HB, Hback⟩
  unfold stB stC
  icases HB with ⟨Hcs, Has, Har, Hcr⟩
  unfold step
  iapply (wp_waitSnd m ρ K c Kt (e, s.castSucc, b) (tIdx (e, s.succ, b)) _) $$ [HO Hcs Has]
  · isplitr; · iexact Hctx
    isplitl [HO]; · iexact HO
    isplitl [Hcs] <;> iassumption
  iintro ⟨HO, Hzs, Hhalf⟩
  iapply (wp_waitRcv m ρ K c Kt (e, s.castSucc, b) (tIdx (e, s.succ, b)) (by omega) _) $$ [HO Hcr Har]
  · isplitr; · iexact Hctx
    isplitl [HO]; · iexact HO
    isplitl [Hcr] <;> iassumption
  iintro ⟨HO, Hzr, Hpay⟩
  unfold rcvPay sndPay
  icases Hpay with ⟨%f, %hf, Hslot⟩
  iapply (wp_loadCom c Kt (e, s.castSucc, b) f _) $$ Hslot; iintro Hslot
  iapply (wp_loadX m ρ c Kt e s.succ.castSucc b _) $$ Hx; iintro Hx
  iapply (wp_storeSnd c Kt e b _ _) $$ Hhalf; iintro Hhalf
  have hv : addV (slotVal (F := F) (e, s.castSucc, b) c f) (xblk m ρ e c s.succ.castSucc b) = acc m ρ e b s.succ.val c := by
    rw [hf]
    have hs : s.succ.castSucc = Fin.ofNat 16 (s.val + 1) := Fin.ext (by simp [Fin.ofNat]; omega)
    rw [hs]; rfl
  iapply (wp_send m ρ K c Kt (e, s.succ, b) _ hv p) $$ [Hhalf Hsl HO Ht1 Ht2]
  · isplitr; · iexact Hctx
    isplitl [Hhalf]; · iexact Hhalf
    isplitl [Hsl]; · iexact Hsl
    isplitl [HO]; · iexact HO
    isplitl [Ht1] <;> iassumption
  iintro ⟨Hcs, HO⟩
  iapply Hk
  isplitl [Hback Hcs Ha1 Ha2 Hc2 Hzs Hzr Hslot]
  · iapply Hback
    isplitl [Hcs Ha1 Ha2 Hc2]
    · isplitl [Hcs]; · iexact Hcs
      isplitl [Ha1]; · iexact Ha1
      isplitl [Ha2] <;> iassumption
    isplitl [Hzs]; · iexact Hzs
    isplitl [Hzr]; · iexact Hzr
    iexists f; iexact Hslot
  isplitl [Hx] <;> iassumption

/-- The four steps of a round. -/
theorem wp_round (Kt : PUnit → sProp 𝕄) (s : Fin 14) (p : KProg F) (t : ℕ) (ht : t = 4 * (s.val + 1)) :
    iprop(ctx m ρ K ∗ run m ρ c t) ⊢ iprop((run m ρ c (t + 4) -∗ WP c p Kt) -∗ WP c (round c s p) Kt) := by
  have hi (e : Bool) (b : Fin 2) : tIdx (e, s.succ, b) = t + 2 * b.val + e.toNat := by unfold tIdx; simp only [Fin.val_succ]; omega
  unfold round
  iintro ⟨#Hctx, H⟩ Hk
  iapply (wp_step m ρ K c Kt false s 0 _ t (by rw [hi]; rfl)) $$ [H]
  · isplitr; · iexact Hctx
    iexact H
  iintro H
  iapply (wp_step m ρ K c Kt true s 0 _ (t + 1) (by rw [hi]; rfl)) $$ [H]
  · isplitr; · iexact Hctx
    iexact H
  iintro H
  iapply (wp_step m ρ K c Kt false s 1 _ (t + 1 + 1) (by rw [hi]; rfl)) $$ [H]
  · isplitr; · iexact Hctx
    iexact H
  iintro H
  iapply (wp_step m ρ K c Kt true s 1 _ (t + 1 + 1 + 1) (by rw [hi]; rfl)) $$ [H]
  · isplitr; · iexact Hctx
    iexact H
  iexact Hk

/-- All rounds from `14 - n` on. -/
theorem wp_rounds (Kt : PUnit → sProp 𝕄) (p : KProg F) : ∀ (n : ℕ) (h : n ≤ 14),
    iprop(ctx m ρ K ∗ run m ρ c (4 * (15 - n))) ⊢ iprop((run m ρ c 60 -∗ WP c p Kt) -∗ WP c (rounds c p n h) Kt)
  | 0, _ => by
    unfold rounds
    iintro ⟨#Hctx, H⟩ Hk
    iapply Hk; iexact H
  | n + 1, h => by
    have ih := wp_rounds Kt p n (by omega)
    rw [show 4 * (15 - n) = 4 * (15 - (n + 1)) + 4 by omega] at ih
    unfold rounds
    iintro ⟨#Hctx, H⟩ Hk
    iapply (wp_round m ρ K c Kt _ _ (4 * (15 - (n + 1))) (by show _ = 4 * (13 - n + 1); omega)) $$ [H]
    · isplitr; · iexact Hctx
      iexact H
    iintro H
    iapply ih $$ [H]
    · isplitr; · iexact Hctx
      iexact H
    iexact Hk

/-- One of the first four sends. -/
theorem wp_firstSend (Kt : PUnit → sProp 𝕄) (e : Bool) (b : Fin 2) (p : KProg F) (t : ℕ) (ht : t = tIdx (e, 0, b)) :
    iprop(ctx m ρ K ∗ stored c e b (firstV (xblk m ρ e c 0 b)) ∗ run m ρ c t) ⊢ iprop((run m ρ c (t + 1) -∗ WP c p Kt) -∗ WP c (opSend e c 0 b p) Kt) := by
  subst ht
  unfold run
  iintro ⟨#Hctx, Hhalf, Hst, Hx, HO⟩ Hk
  ihave Hst := (state_first (F := F) c (e, 0, b) (by unfold tIdx; have := b.isLt; have : e.toNat < 2 := (by cases e <;> decide); simp only [Fin.val_zero]; omega)) $$ Hst
  unfold stA stA₀
  icases Hst with ⟨⟨⟨Ht1, Ht2, Ha1, Ha2, Hc2⟩, Hsl⟩, Hback⟩
  unfold stB
  iapply (wp_send m ρ K c Kt (e, 0, b) _ rfl p) $$ [Hhalf Hsl HO Ht1 Ht2]
  · isplitr; · iexact Hctx
    isplitl [Hhalf]; · iexact Hhalf
    isplitl [Hsl]; · iexact Hsl
    isplitl [HO]; · iexact HO
    isplitl [Ht1] <;> iassumption
  iintro ⟨Hcs, HO⟩
  iapply Hk
  isplitl [Hback Hcs Ha1 Ha2 Hc2]
  · iapply Hback
    isplitl [Hcs]; · iexact Hcs
    isplitl [Ha1]; · iexact Ha1
    isplitl [Ha2] <;> iassumption
  isplitl [Hx] <;> iassumption

/-- Step 0 of a row half. -/
theorem wp_first (Kt : PUnit → sProp 𝕄) (b : Fin 2) (p : KProg F) (t : ℕ) (ht : t = 2 * b.val) :
    iprop(ctx m ρ K ∗ (∃ f, half (F := F) false b c f) ∗ (∃ f, half (F := F) true b c f) ∗ run m ρ c t)
      ⊢ iprop((run m ρ c (t + 2) -∗ WP c p Kt) -∗ WP c (first c b p) Kt) := by
  unfold first firstStore
  iintro ⟨#Hctx, Hf, Ht, Hr⟩ Hk
  unfold run
  icases Hr with ⟨Hst, Hx, HO⟩
  iapply (wp_loadX m ρ c Kt false 0 b _) $$ Hx; iintro Hx
  iapply (wp_storeSnd c Kt false b _ _) $$ Hf; iintro Hf
  iapply (wp_loadX m ρ c Kt true 0 b _) $$ Hx; iintro Hx
  iapply (wp_storeSnd c Kt true b _ _) $$ Ht; iintro Ht
  iapply (wp_firstSend m ρ K c Kt false b _ t (by subst ht; unfold tIdx; simp)) $$ [Hf Hst Hx HO]
  · isplitr; · iexact Hctx
    isplitl [Hf]; · iexact Hf
    unfold run
    isplitl [Hst]; · iexact Hst
    isplitl [Hx] <;> iassumption
  iintro Hr
  iapply (wp_firstSend m ρ K c Kt true b _ (t + 1) (by subst ht; unfold tIdx; simp)) $$ [Ht Hr]
  · isplitr; · iexact Hctx
    isplitl [Ht] <;> iassumption
  unfold run
  iexact Hk

end

end Cert.KernelIdeal.RingProof

end
-- ==== Proof.KIBody.lean ====
/-
The whole body: the handshake, the ring, the last step with the result stored, the waits for the last departures.
-/
module

public import proofs.«01_k».proof.Proof.KILoop

@[expose] public section

set_option maxRecDepth 8000

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The quarter of the result at row half `b`, column half `e`. -/
def quarter (c : Dev nD) (b e : Fin 2) : FVec F S256x256 .f32 :=
  if e = 0 then outR (acc m ρ false b 14 (toDev true c)) (xblk m ρ false c 15 b) (acc m ρ true b 14 (toDev false c)) (xblk m ρ true c 15 b) (gval m ρ c)
  else outL (acc m ρ false b 14 (toDev true c)) (xblk m ρ false c 15 b) (acc m ρ true b 14 (toDev false c)) (xblk m ρ true c 15 b) (gval m ρ c)

/-- A position inside a quarter. -/
def inQ (i j : Fin 256) : S256x256.Idx := fun a => ⟨(![i.val, j.val] : Fin 2 → ℕ) a, by
  fin_cases a
  · exact i.isLt
  · exact j.isLt⟩
/-- The quarter a position of the block lies in, and where in it. -/
def qRow (i : S512x512.Idx) : Fin 2 := ⟨(i 0).val / 256, Nat.div_lt_of_lt_mul (i 0).isLt⟩
def qCol (i : S512x512.Idx) : Fin 2 := ⟨(i 1).val / 256, Nat.div_lt_of_lt_mul (i 1).isLt⟩
def qPos (i : S512x512.Idx) : S256x256.Idx := inQ ⟨(i 0).val % 256, Nat.mod_lt _ (by decide)⟩ ⟨(i 1).val % 256, Nat.mod_lt _ (by decide)⟩

/-- The result's block on device `c`, quarter by quarter. -/
def outAt (c : Dev nD) : (cc0_stg2_0 : Ref sig .tc).ty.Contents (Elt F) := fun i : S512x512.Idx => quarter m ρ c (qRow i) (qCol i) (qPos i)

/-- The two stores of a row half. -/
def putOut (c : Dev nD) (b : Fin 2) (f : (cc0_stg2_0 : Ref sig .tc).ty.Contents (Elt F)) : (cc0_stg2_0 : Ref sig .tc).ty.Contents (Elt F) :=
  ((oM : Memref sig .tc .vmem S512x512 .f32).access (outRect b 1)).write (Elt F)
    (((oM : Memref sig .tc .vmem S512x512 .f32).access (outRect b 0)).write (Elt F) f (quarter m ρ c b 0) Finset.univ) (quarter m ρ c b 1) Finset.univ

theorem put_apply (b e : Fin 2) (f : (cc0_stg2_0 : Ref sig .tc).ty.Contents (Elt F)) (v : FVec F S256x256 .f32) (i : S512x512.Idx) :
    ((oM : Memref sig .tc .vmem S512x512 .f32).access (outRect b e)).write (Elt F) f v Finset.univ i = if qRow i = b ∧ qCol i = e then v (qPos i) else f i := by
  refine (congrFun (View.write_whole_slice_unit (Val := Elt F) cc0_stg2_0 ![256 * b.val, 256 * e.val] S256x256.size (inbOut b e) f v) i).trans ?_
  unfold updateSlice
  have hb := b.isLt; have he := e.isLt
  by_cases h : qRow i = b ∧ qCol i = e
  · have h0 : (i 0).val / 256 = b.val := congrArg Fin.val h.1
    have h1 : (i 1).val / 256 = e.val := congrArg Fin.val h.2
    have hin : ∀ a : Fin 2, (![256 * b.val, 256 * e.val] : Fin 2 → ℕ) a ≤ (i a).val ∧ (i a).val < (![256 * b.val, 256 * e.val] : Fin 2 → ℕ) a + S256x256.size a := by
      intro a; fin_cases a
      · show 256 * b.val ≤ (i 0).val ∧ (i 0).val < 256 * b.val + 256; omega
      · show 256 * e.val ≤ (i 1).val ∧ (i 1).val < 256 * e.val + 256; omega
    rw [if_pos h]
    refine (dif_pos hin).trans (congrArg v (funext fun a => Fin.ext ?_))
    fin_cases a
    · show (i 0).val - 256 * b.val = (i 0).val % 256; omega
    · show (i 1).val - 256 * e.val = (i 1).val % 256; omega
  · rw [if_neg h]
    refine dif_neg fun hin => h ?_
    have h0 : 256 * b.val ≤ (i 0).val ∧ (i 0).val < 256 * b.val + 256 := hin (0 : Fin 2)
    have h1 : 256 * e.val ≤ (i 1).val ∧ (i 1).val < 256 * e.val + 256 := hin (1 : Fin 2)
    refine ⟨Fin.ext ?_, Fin.ext ?_⟩
    · show (i 0).val / 256 = b.val; omega
    · show (i 1).val / 256 = e.val; omega

/-- The four stores fill the block. -/
theorem putOut_eq (c : Dev nD) (f : (cc0_stg2_0 : Ref sig .tc).ty.Contents (Elt F)) : putOut m ρ c 1 (putOut m ρ c 0 f) = outAt m ρ c := by
  funext i
  unfold putOut outAt
  rw [put_apply, put_apply, put_apply, put_apply]
  generalize qRow i = a; generalize qCol i = b
  fin_cases a <;> fin_cases b <;> simp

/-! ## The last step -/

section
variable (K : Dev nD × Option XK → ℕ) (c : Dev nD)

/-- A store into a quarter of the result. -/
theorem wp_storeOut (Kt : PUnit → sProp 𝕄) (b e : Fin 2) (v : FVec F S256x256 .f32) (f) (p : KProg F) :
    oPts c f ⊢ iprop((oPts c (((oM : Memref sig .tc .vmem S512x512 .f32).access (outRect b e)).write (Elt F) f v Finset.univ) -∗ WP c p Kt) -∗ WP c (opStoreOut b e v p) Kt) := by
  unfold oPts opStoreOut
  iintro H Hk
  iapply (wp_load 𝒱₀ (c : Thread nD τ) none Set.univ (m := oM) (Finset.subset_univ _)) $$ H; iintro H
  iapply (wp_store 𝒱₀ (c : Thread nD τ) none Set.univ (m := oM) (r := outRect b e) (f := f) (Mk := Finset.univ) (Finset.subset_univ _)) $$ H; iintro H
  iapply Hk; iexact H

/-- The last step of a row half: what landed last and the device's own chunk, normalised and stored. -/
theorem wp_last (Kt : PUnit → sProp 𝕄) (b : Fin 2) (f) (p : KProg F) :
    iprop(ctx m ρ K ∗ stB (lastK false b) c ∗ stB (lastK true b) c ∗ oPts c f ∗ xPts m ρ c ∗ gPts m ρ c ∗ owesE (F := F) c (owed c 60))
      ⊢ iprop((stD (lastK false b) c ∗ stD (lastK true b) c ∗ oPts c (putOut m ρ c b f) ∗ xPts m ρ c ∗ gPts m ρ c ∗ owesE (F := F) c (owed c 60) -∗ WP c p Kt)
          -∗ WP c (last c b p) Kt) := by
  have hlt (e : Bool) : tIdx (lastK e b) < 60 := by
    have := b.isLt; have h1 : e.toNat < 2 := (by cases e <;> decide)
    show 4 * 14 + 2 * b.val + e.toNat < 60; omega
  unfold stB stD last
  iintro ⟨#Hctx, ⟨Hs0, Ha0, Hr0, Hc0⟩, ⟨Hs1, Ha1, Hr1, Hc1⟩, Ho, Hx, Hg, HO⟩ Hk
  iapply (wp_waitRcv m ρ K c Kt (lastK false b) 60 (hlt false) _) $$ [HO Hc0 Hr0]
  · isplitr; · iexact Hctx
    isplitl [HO]; · iexact HO
    isplitl [Hc0] <;> iassumption
  iintro ⟨HO, Hz0, Hp0⟩
  iapply (wp_waitRcv m ρ K c Kt (lastK true b) 60 (hlt true) _) $$ [HO Hc1 Hr1]
  · isplitr; · iexact Hctx
    isplitl [HO]; · iexact HO
    isplitl [Hc1] <;> iassumption
  iintro ⟨HO, Hz1, Hp1⟩
  unfold rcvPay
  icases Hp0 with ⟨%f0, %hf0, Hl0⟩
  icases Hp1 with ⟨%f1, %hf1, Hl1⟩
  iapply (wp_loadCom c Kt (lastK false b) f0 _) $$ Hl0; iintro Hl0
  iapply (wp_loadX m ρ c Kt false 15 b _) $$ Hx; iintro Hx
  iapply (wp_loadCom c Kt (lastK true b) f1 _) $$ Hl1; iintro Hl1
  iapply (wp_loadX m ρ c Kt true 15 b _) $$ Hx; iintro Hx
  iapply (wp_loadG m ρ c Kt _) $$ Hg; iintro Hg
  rw [hf0, hf1]
  iapply (wp_storeOut c Kt b 0 _ f _) $$ Ho; iintro Ho
  iapply (wp_storeOut c Kt b 1 _ _ _) $$ Ho; iintro Ho
  iapply Hk
  isplitl [Hs0 Ha0 Hz0 Hl0]
  · isplitl [Hs0]; · iexact Hs0
    isplitl [Ha0]; · iexact Ha0
    isplitl [Hz0]; · iexact Hz0
    iexists f0; iexact Hl0
  isplitl [Hs1 Ha1 Hz1 Hl1]
  · isplitl [Hs1]; · iexact Hs1
    isplitl [Ha1]; · iexact Ha1
    isplitl [Hz1]; · iexact Hz1
    iexists f1; iexact Hl1
  isplitl [Ho]; · unfold putOut; iexact Ho
  isplitl [Hx]; · iexact Hx
  isplitl [Hg] <;> iassumption

/-- The wait for a last departure. -/
theorem wp_drain1 (Kt : PUnit → sProp 𝕄) (e : Bool) (b : Fin 2) (p : KProg F) :
    iprop(ctx m ρ K ∗ stD (lastK e b) c ∗ owesE (F := F) c (owed c 60))
      ⊢ iprop((stC (lastK e b) c ∗ (∃ f, half (F := F) e b c f) ∗ owesE (F := F) c (owed c 60) -∗ WP c p Kt) -∗ WP c (opWaitSnd e 14 b p) Kt) := by
  unfold stD stC
  iintro ⟨#Hctx, ⟨Hs, Ha, Hz, Hl⟩, HO⟩ Hk
  iapply (wp_waitSnd m ρ K c Kt (lastK e b) 60 _) $$ [HO Hs Ha]
  · isplitr; · iexact Hctx
    isplitl [HO]; · iexact HO
    isplitl [Hs] <;> iassumption
  iintro ⟨HO, Hzs, Hh⟩
  unfold sndPay
  iapply Hk
  isplitl [Hz Hzs Hl]
  · isplitl [Hzs]; · iexact Hzs
    isplitl [Hz] <;> iassumption
  isplitl [Hh] <;> iassumption

/-! ## The handshake -/

theorem payBar_eq (e : Bool) : barPay (F := F) e (toDev (!e) c) = (bigSep Finset.univ fun sb : Fin 15 × Fin 2 => iprop(∃ f, slot (F := F) (e, sb) c f)) := by
  unfold barPay; rw [toDev_inv' e c]

/-- A signal to the neighbour behind in direction `e`, handing it the device's slots of that direction. -/
theorem wp_opSignal (Kt : PUnit → sProp 𝕄) (e : Bool) (O O' : CellTallies nD τ sig Unit) (hO : O = O' + tallyAt (barCell (toDev (!e) c)) () 1) (p : KProg F) :
    iprop(ctx m ρ K ∗ owesE (F := F) c O ∗ dutyTok ER (barCell (toDev (!e) c)) 0 e ∗ (bigSep Finset.univ fun sb : Fin 15 × Fin 2 => iprop(∃ f, slot (F := F) (e, sb) c f)))
      ⊢ iprop((owesE (F := F) c O' -∗ WP c p Kt) -∗ WP c (opSignal (toDev (!e) c) p) Kt) := by
  unfold owesE opSignal
  simp only [semSignalWord, semWaitWord, Prog.lift, Prog.bind_op, Prog.bind_ret, Prog.pure_eq_ret]
  iintro ⟨#Hctx, ⟨%W, HO⟩, Ht, Hs⟩ Hk
  iapply (Rounds.wp_signal 𝒱₀ ER (ringRd m ρ) (c : Thread nD τ) none (dst := (toDev (!e) c : Thread nD τ)) (κ := K (toDev (!e) c, none))
      (d := e) (by rw [duties_bar]; exact Finset.mem_univ _) ((amount_bar m ρ (toDev (!e) c) e).trans (by decide)) () O' hO)
    $$ [HO Ht Hs]
  · isplitr; · iapply (ctx_bar m ρ K (toDev (!e) c)); iexact Hctx
    isplitl [HO]; · iexact HO
    isplitl [Ht]; · iexact Ht
    isplitl [Hs]
    · rw [payload_bar, payBar_eq]; iexact Hs
    iapply (reached_bar m ρ K (toDev (!e) c)); iexact Hctx
  iintro HO
  iapply Hk
  iexists W; iexact HO

theorem wait_bar_level : ctx m ρ K ⊢ MayWait (c : Thread nD τ) (.reg barS) () (owed c 0) :=
  (ctx_lev m ρ K).trans (mayWait_of_lt c (.reg barS) (owed c 0) 1 (Nat.le_of_eq (lv_bar c ())) (fun g u hg => owed_lv (by omega) g u hg))

/-- The wait for both neighbours' signals, which hand over the slots the device writes into. -/
theorem wp_opBarrier (Kt : PUnit → sProp 𝕄) (p : KProg F) :
    iprop(ctx m ρ K ∗ owesE (F := F) c (owed c 0) ∗ cred (tallyAt (barCell c) () 2) ∗ atPos ER (barCell c) 0 ∅ 0)
      ⊢ iprop((owesE (F := F) c (owed c 0) ∗ semVal (barCell c) 0 ∗ barPay (F := F) false c ∗ barPay (F := F) true c -∗ WP c p Kt) -∗ WP c (opBarrier p) Kt) := by
  unfold owesE opBarrier
  simp only [semSignalWord, semWaitWord, Prog.lift, Prog.bind_op, Prog.bind_ret, Prog.pure_eq_ret]
  iintro ⟨#Hctx, ⟨%W, HO⟩, Hc, Hat⟩ Hk
  iapply (Rounds.wp_wait_rest_token 𝒱₀ ER (ringRd m ρ) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HO Hc Hat]
  · isplitr; · iapply (ctx_bar m ρ K c); iexact Hctx
    isplitl [Hc]; · iexact Hc
    isplitl [HO]; · iexact HO
    isplitr; · iapply (wait_bar_level m ρ K c); iexact Hctx
    iexact Hat
  iintro ⟨HO, Hat, -, Hpay⟩
  ihave Hpay := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iapply (ctx_bar m ρ K c); iexact Hctx
    iexact Hat
  iapply Hk
  isplitl [HO]; · iexists _; iexact HO
  isplitl [Hz] <;> iassumption

/-! ## The whole body -/

/-- The transfers' cells and the neighbours' slots make the state before the first send. -/
theorem state_intro :
    iprop((bigSep Finset.univ fun k : CK => stA₀ (F := F) k c) ∗ barPay (F := F) false c ∗ barPay (F := F) true c) ⊢ state (F := F) c 0 := by
  have h : state (F := F) c 0 = (bigSep Finset.univ fun k : CK => iprop(stA₀ (F := F) k c ∗ ∃ f, slot (F := F) k (toDev k.1 c) f)) :=
    bigSep_congr fun k _ => stage_A c (Nat.zero_le _)
  rw [h, bigSep_sep', bigSep_univ_prod (fun k : CK => iprop(∃ f, slot (F := F) k (toDev k.1 c) f)), bigSep_univ_eq_bigSepL (I := Bool) [false, true] (by decide) (by decide),
    bigSepL_cons_cons, bigSepL_singleton]
  unfold barPay
  iintro H; iexact H

/-- What the body starts from; -/
def bodyIn (f : (cc0_stg2_0 : Ref sig .tc).ty.Contents (Elt F)) : sProp 𝕄 :=
  iprop(ctx m ρ K ∗ owesE (F := F) c (O₀ c)
    ∗ (dutyTok ER (barCell (toDev true c)) 0 false ∗ dutyTok ER (barCell (toDev false c)) 0 true ∗ atPos ER (barCell c) 0 ∅ 0 ∗ cred (tallyAt (barCell c) () 2))
    ∗ (bigSep Finset.univ fun k : CK => stA₀ (F := F) k c)
    ∗ (bigSep Finset.univ fun sb : Fin 15 × Fin 2 => iprop(∃ f, slot (F := F) (false, sb) c f)) ∗ (bigSep Finset.univ fun sb : Fin 15 × Fin 2 => iprop(∃ f, slot (F := F) (true, sb) c f))
    ∗ (bigSep Finset.univ fun b : Fin 2 => iprop(∃ f, half (F := F) false b c f)) ∗ (bigSep Finset.univ fun b : Fin 2 => iprop(∃ f, half (F := F) true b c f))
    ∗ xPts m ρ c ∗ gPts m ρ c ∗ oPts (F := F) c f)

/-- and ends with. -/
def bodyOut : sProp 𝕄 :=
  iprop(owesE (F := F) c 0 ∗ semVal (barCell c) 0 ∗ (bigSep Finset.univ fun k : CK => stC (F := F) k c)
    ∗ (bigSep Finset.univ fun b : Fin 2 => iprop(∃ f, half (F := F) false b c f)) ∗ (bigSep Finset.univ fun b : Fin 2 => iprop(∃ f, half (F := F) true b c f))
    ∗ xPts m ρ c ∗ gPts m ρ c ∗ oPts (F := F) c (outAt m ρ c))

theorem sep_fin2 (Φ : Fin 2 → sProp 𝕄) : bigSep Finset.univ Φ = iprop(Φ 0 ∗ Φ 1) := bigSep_univ_eq_bigSepL [0, 1] (by decide) (by decide) Φ

/-- The body run on device `c`. -/
theorem wp_body (Kt : PUnit → sProp 𝕄) (f) : iprop(bodyIn m ρ K c f ∗ (bodyOut m ρ c -∗ Kt ⟨⟩)) ⊢ WP c ringBody Kt := by
  unfold bodyIn bodyOut ringBody
  rw [sep_fin2, sep_fin2]
  simp only [wp_deviceId]
  iintro ⟨⟨#Hctx, HO, ⟨Ht0, Ht1, HaB, HcB⟩, HA, Hs0, Hs1, ⟨Hh00, Hh01⟩, ⟨Hh10, Hh11⟩, Hx, Hg, Ho⟩, Hk⟩
  iapply (wp_opSignal m ρ K c Kt false (O₀ c) (O₁ c) rfl _) $$ [HO Ht0 Hs0]
  · isplitr; · iexact Hctx
    isplitl [HO]; · iexact HO
    isplitl [Ht0]; · iexact Ht0
    iexact Hs0
  iintro HO
  iapply (wp_opSignal m ρ K c Kt true (O₁ c) (owed c 0) rfl _) $$ [HO Ht1 Hs1]
  · isplitr; · iexact Hctx
    isplitl [HO]; · iexact HO
    isplitl [Ht1]; · iexact Ht1
    iexact Hs1
  iintro HO
  iapply (wp_opBarrier m ρ K c Kt _) $$ [HO HcB HaB]
  · isplitr; · iexact Hctx
    isplitl [HO]; · iexact HO
    isplitl [HcB] <;> iassumption
  iintro ⟨HO, HzB, Hb0, Hb1⟩
  ihave Hst := (state_intro (F := F) c) $$ [HA Hb0 Hb1]
  · isplitl [HA]; · iexact HA
    isplitl [Hb0] <;> iassumption
  iapply (wp_first m ρ K c Kt 0 _ 0 rfl) $$ [Hh00 Hh10 Hst Hx HO]
  · isplitr; · iexact Hctx
    isplitl [Hh00]; · iexact Hh00
    isplitl [Hh10]; · iexact Hh10
    unfold run
    isplitl [Hst]; · iexact Hst
    isplitl [Hx] <;> iassumption
  iintro Hr
  iapply (wp_first m ρ K c Kt 1 _ 2 rfl) $$ [Hh01 Hh11 Hr]
  · isplitr; · iexact Hctx
    isplitl [Hh01]; · iexact Hh01
    isplitl [Hh11] <;> iassumption
  iintro Hr
  iapply (wp_rounds m ρ K c Kt _ 14 (le_refl _)) $$ [Hr]
  · isplitr; · iexact Hctx
    iexact Hr
  unfold run
  iintro ⟨Hst, Hx, HO⟩
  ihave Hst := (state_last (F := F) c) $$ Hst
  icases Hst with ⟨H00, H10, H01, H11, Hback⟩
  iapply (wp_last m ρ K c Kt 0 f _) $$ [H00 H10 Ho Hx Hg HO]
  · isplitr; · iexact Hctx
    isplitl [H00]; · iexact H00
    isplitl [H10]; · iexact H10
    isplitl [Ho]; · iexact Ho
    isplitl [Hx]; · iexact Hx
    isplitl [Hg] <;> iassumption
  iintro ⟨H00, H10, Ho, Hx, Hg, HO⟩
  iapply (wp_last m ρ K c Kt 1 _ _) $$ [H01 H11 Ho Hx Hg HO]
  · isplitr; · iexact Hctx
    isplitl [H01]; · iexact H01
    isplitl [H11]; · iexact H11
    isplitl [Ho]; · iexact Ho
    isplitl [Hx]; · iexact Hx
    isplitl [Hg] <;> iassumption
  iintro ⟨H01, H11, Ho, Hx, Hg, HO⟩
  rw [putOut_eq]
  unfold drain
  iapply (wp_drain1 m ρ K c Kt false 0 _) $$ [H00 HO]
  · isplitr; · iexact Hctx
    isplitl [H00] <;> iassumption
  iintro ⟨H00, Hh00, HO⟩
  iapply (wp_drain1 m ρ K c Kt true 0 _) $$ [H10 HO]
  · isplitr; · iexact Hctx
    isplitl [H10] <;> iassumption
  iintro ⟨H10, Hh10, HO⟩
  iapply (wp_drain1 m ρ K c Kt false 1 _) $$ [H01 HO]
  · isplitr; · iexact Hctx
    isplitl [H01] <;> iassumption
  iintro ⟨H01, Hh01, HO⟩
  iapply (wp_drain1 m ρ K c Kt true 1 _) $$ [H11 HO]
  · isplitr; · iexact Hctx
    isplitl [H11] <;> iassumption
  iintro ⟨H11, Hh11, HO⟩
  rw [owed_end]
  unfold WP
  rw [wp_ret]; imodintro
  iapply Hk
  isplitl [HO]; · iexact HO
  isplitl [HzB]; · iexact HzB
  isplitl [Hback H00 H10 H01 H11]
  · iapply Hback
    isplitl [H00]; · iexact H00
    isplitl [H10]; · iexact H10
    isplitl [H01] <;> iassumption
  isplitl [Hh00 Hh01]; · isplitl [Hh00] <;> iassumption
  isplitl [Hh10 Hh11]; · isplitl [Hh10] <;> iassumption
  isplitl [Hx]; · iexact Hx
  isplitl [Hg] <;> iassumption

end

end Cert.KernelIdeal.RingProof

end
-- ==== Proof.KIData.lean ====
/-
The body obligation on every device.
-/
module

public import proofs.«01_k».proof.Proof.KIBody

@[expose] public section

set_option maxRecDepth 8000

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells -/

theorem sep_option (Φ : Option XK → sProp 𝕄) : bigSep Finset.univ Φ = iprop(Φ none ∗ bigSep Finset.univ fun x => Φ (some x)) := by
  rw [take_out (Finset.mem_univ none),
    show (Finset.univ : Finset (Option XK)).erase none = Finset.univ.map Function.Embedding.some by ext o; cases o <;> simp, bigSep_map]
  rfl
theorem sep_XK (Φ : XK → sProp 𝕄) : bigSep Finset.univ Φ = iprop((bigSep Finset.univ fun k : CK => Φ (false, k)) ∗ bigSep Finset.univ fun k : CK => Φ (true, k)) := by
  rw [bigSep_univ_prod, bigSep_univ_eq_bigSepL (I := Bool) [false, true] (by decide) (by decide), bigSepL_cons_cons, bigSepL_singleton]
  rfl

/-! ## The ghost state of a device -/

/-- Every cell's invariant and that it has reached round 0. -/
def records (K : Dev nD × Option XK → ℕ) : sProp 𝕄 :=
  iprop((bigSep Finset.univ fun ck : Dev nD × Option XK => cellInv ER (ringRd m ρ) (K ck) (kcell ck))
    ∗ (bigSep Finset.univ fun ck : Dev nD × Option XK => reached ER (kcell ck) 0))
instance records_persistent (K : Dev nD × Option XK → ℕ) : BI.Persistent (records m ρ K) := by unfold records; infer_instance

/-- The tokens of the duties a device pays. -/
def payToks (c : Dev nD) : sProp 𝕄 :=
  iprop((dutyTok ER (barCell (toDev true c)) 0 false ∗ dutyTok ER (barCell (toDev false c)) 0 true)
    ∗ (bigSep Finset.univ fun k : CK => dutyTok ER (sndCell k c) 0 false) ∗ (bigSep Finset.univ fun k : CK => dutyTok ER (rcvCell k (toDev k.1 c)) 0 false))
/-- Its positions and those tokens. -/
def linear (c : Dev nD) : sProp 𝕄 := iprop((bigSep Finset.univ fun o : Option XK => atPos ER (kcell (c, o)) 0 ∅ 0) ∗ payToks (F := F) c)

/-- What the launch's global step gives a device. -/
def G' (c : Dev nD) : sProp 𝕄 := iprop(∃ K, records m ρ K ∗ linear (F := F) c)

/-- What its body starts from: that, the credits of what the others owe its cells, the levels. -/
def start (c : Dev nD) : sProp 𝕄 :=
  iprop(G' m ρ c ∗ cred (tallyAt (barCell c) () 2) ∗ (bigSep Finset.univ fun k : CK => cred (tallyAt (rcvCell k c) () N)) ∗ levAts L lv)

/-- The scratch buffers, whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def Φ₀ (c : Dev nD) : sProp 𝕄 := iprop(start m ρ c ∗ scratch (F := F) c)
/-- After the body every cell is closed at zero and the scratch buffers are back piece by piece. -/
def Φ₁ (c : Dev nD) : sProp 𝕄 :=
  iprop(semVal (barCell c) 0 ∗ (bigSep Finset.univ fun k : CK => stC (F := F) k c)
    ∗ (bigSep Finset.univ fun b : Fin 2 => iprop(∃ f, half (F := F) false b c f)) ∗ (bigSep Finset.univ fun b : Fin 2 => iprop(∃ f, half (F := F) true b c f)))

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (gstg m ρ c) ∗ stg c cc0_stg2_0 (outAt m ρ c))

/-- The device's start opened into what the body uses. -/
theorem stA_intro (c : Dev nD) :
    iprop((bigSep Finset.univ fun k : CK => dutyTok ER (sndCell k c) 0 false) ∗ (bigSep Finset.univ fun k : CK => dutyTok ER (rcvCell k (toDev k.1 c)) 0 false)
      ∗ (bigSep Finset.univ fun k : CK => atPos ER (sndCell k c) 0 ∅ 0) ∗ (bigSep Finset.univ fun k : CK => atPos ER (rcvCell k c) 0 ∅ 0)
      ∗ (bigSep Finset.univ fun k : CK => (cred (tallyAt (rcvCell k c) () N) : sProp 𝕄)))
      ⊢ (bigSep Finset.univ fun k : CK => stA₀ (F := F) k c) := by
  unfold stA₀
  rewrite [bigSep_sep', bigSep_sep', bigSep_sep', bigSep_sep']
  iintro ⟨H1, H2, H3, H4, H5⟩
  isplitl [H1]; · iexact H1
  isplitl [H2]; · iexact H2
  isplitl [H3]; · iexact H3
  isplitl [H4]; · iexact H4
  iexact H5

/-- The body, from the pipeline's precondition to its postcondition. -/
theorem sound_body (c : Dev nD) (Kt : PUnit → sProp 𝕄) : iprop(bodyPre m ρ c ∗ (bodyPost m ρ c -∗ Kt ⟨⟩)) ⊢ WP c ringBody Kt := by
  unfold bodyPre Φ₀ start G' records linear payToks scratch
  iintro ⟨⟨⟨⟨⟨%K, ⟨#HI, #HR⟩, Hat, ⟨Ht0, Ht1⟩, Hts, Htr⟩, HcB, Hcr, #Hlev⟩, Hs0, Hs1, Hs2, Hs3⟩, Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch_0 t0_0)]; rfl
  have hg : g1 = gstg m ρ c := by rw [hg1]; unfold Dat.before; rw [if_pos (fetch_1 t0_0)]; rfl
  subst hx; subst hg
  unfold Dat.owesAt Pipeline.owesWithin
  icases Ho with ⟨%W, %hW, HO⟩
  rw [show (dats m ρ 0 c).owed t0_0.castSucc = O₀ c from rfl]
  ihave Hat := (Entails.of_eq ((sep_option (F := F) (fun o => atPos ER (kcell (c, o)) 0 ∅ 0)).trans
    (congrArg (fun X => iprop(atPos ER (barCell c) 0 ∅ 0 ∗ X)) (sep_XK (F := F) (fun x => atPos ER (kcell (c, some x)) 0 ∅ 0))))) $$ Hat
  icases Hat with ⟨HaB, Has, Har⟩
  iapply (wp_body m ρ K c Kt g2)
  unfold bodyIn bodyOut
  isplitr [Hk]
  · isplitr
    · unfold ctx levs
      isplitr; · iexact HI
      isplitr; · iexact HR
      iexact Hlev
    isplitl [HO]; · unfold owesE; iexists W; iexact HO
    isplitl [Ht0 Ht1 HaB HcB]
    · isplitl [Ht0]; · iexact Ht0
      isplitl [Ht1]; · iexact Ht1
      isplitl [HaB] <;> iassumption
    isplitl [Hts Htr Has Har Hcr]
    · iapply (stA_intro (F := F) c)
      isplitl [Hts]; · iexact Hts
      isplitl [Htr]; · iexact Htr
      isplitl [Has]; · iexact Has
      isplitl [Har]; · iexact Har
      iexact Hcr
    isplitl [Hs2]; · iapply (com_split (F := F) false c); iexact Hs2
    isplitl [Hs3]; · iapply (com_split (F := F) true c); iexact Hs3
    isplitl [Hs0]; · iapply (snd_split (F := F) false c); iexact Hs0
    isplitl [Hs1]; · iapply (snd_split (F := F) true c); iexact Hs1
    isplitl [Hx]; · unfold xPts; iexact Hx
    isplitl [Hg]; · unfold gPts; iexact Hg
    unfold oPts; iexact Hout
  · iintro ⟨HO, HzB, HC, Hh0, Hh1, Hx, Hg, Hout⟩
    iapply Hk
    unfold bodyPost Φ₁ owesE Dat.owesAt Pipeline.owesWithin xPts gPts oPts
    rw [show (dats m ρ 0 c).owed t0_0.succ = 0 from rfl]
    isplitl [HzB HC Hh0 Hh1]
    · isplitl [HzB]; · iexact HzB
      isplitl [HC]; · iexact HC
      isplitl [Hh0] <;> iassumption
    isplitl [HO]
    · icases HO with ⟨%W', HO⟩
      iexists W'
      isplitr; · ipureintro; exact fun _ _ => Or.inl trivial
      iexact HO
    isplitl [Hx]; · iexists _; isplitr; · (ipureintro; rfl)
                    iexact Hx
    isplitl [Hg]; · iexists _; isplitr; · (ipureintro; rfl)
                    iexact Hg
    iexists _; isplitr; · (ipureintro; rfl)
    iexact Hout

/-- The program the pipeline runs at its point is the body. -/
theorem defs₀_eq : (defs₀ (F := F) Proc.tc 0 (t0_0, cfg0.slots t0_0)) = ringBody (F := F) := by
  show cc0_body (F := F) xM (Memref.isWhole_whole _) gM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7 = ringBody
  exact body_eq

/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  rw [defs₀_eq]
  have e0 : (dats m ρ 0 c).Φ t0_0.castSucc = Φ₀ m ρ c := rfl
  have e1 : (dats m ρ 0 c).Φ t0_0.succ = Φ₁ (F := F) c := rfl
  have e2 : (dats m ρ 0 c).after 0 t0_0 = xstg m ρ c := rfl
  have e3 : (dats m ρ 0 c).after 1 t0_0 = gstg m ρ c := rfl
  have e4 : (dats m ρ 0 c).after 2 t0_0 = outAt m ρ c := rfl
  rw [e0, e1, e2, e3, e4]
  iintro H
  iapply (sound_body m ρ c _)
  isplitl [H]; · unfold bodyPre; iexact H
  unfold bodyPost; iintro H; iexact H

end Cert.KernelIdeal.RingProof

end
-- ==== Proof.KILaunch.lean ====
/-
The launch: the ghost state dealt out, and the run of the whole program.
-/
module

public import proofs.«01_k».proof.Proof.KIData
public import Idealize.ShloMosaic.Lib.Pipeline.CollectiveSegs

@[expose] public section

set_option maxRecDepth 8000

noncomputable section

namespace Cert.KernelIdeal.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state dealt out -/

theorem kcell_injective : Function.Injective (kcell : Dev nD × Option XK → GSem nD τ sig) := by
  rintro ⟨c, o⟩ ⟨c', o'⟩ h
  have h1 : c = c' := congrArg (fun g : GSem nD τ sig => g.1.1) h
  have h2 : o = o' := csem_inj (congrArg Prod.snd h)
  rw [h1, h2]

/-- The ring's cells, and the duty tokens minted: each barrier cell's two, each transfer cell's one. -/
def ringCells : Finset (GSem nD τ sig) := Finset.univ.map ⟨kcell, kcell_injective⟩
def tokOf (x : Dev nD × (Bool ⊕ XK)) : GSem nD τ sig × ℕ × Bool :=
  match x.2 with
  | .inl b => (kcell (x.1, none), 0, b)
  | .inr y => (kcell (x.1, some y), 0, false)
theorem tokOf_injective : Function.Injective tokOf := by
  rintro ⟨c, b | y⟩ ⟨c', b' | y'⟩ h
  · have h1 := kcell_injective (congrArg Prod.fst h)
    have h2 : b = b' := congrArg (fun z : GSem nD τ sig × ℕ × Bool => z.2.2) h
    rw [show c = c' from congrArg Prod.fst h1, h2]
  · have h1 := kcell_injective (congrArg Prod.fst h)
    cases congrArg Prod.snd h1
  · have h1 := kcell_injective (congrArg Prod.fst h)
    cases congrArg Prod.snd h1
  · have h1 := kcell_injective (congrArg Prod.fst h)
    rw [show c = c' from congrArg Prod.fst h1, show y = y' from Option.some.inj (congrArg Prod.snd h1)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun b : Bool => dutyTok ER (barCell c) 0 b) ∗ bigSep Finset.univ fun x : XK => dutyTok ER (kcell (c, some x)) 0 false)

/-- What the launch element deals device `c`. -/
def G (c : Dev nD) : sProp 𝕄 :=
  iprop((bigSep Finset.univ fun o : Option XK => roundState ER (ringRd m ρ) (kcell (c, o)) 0)
    ∗ (bigSep Finset.univ fun o : Option XK => iprop(atPos ER (kcell (c, o)) 0 ∅ 0 ∗ reached ER (kcell (c, o)) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun o : Option XK => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfer semaphores are the kernel's own; the barrier semaphore is the launch's. -/
theorem ownSems0_eq (c : Dev nD) : (Pipeline.ownSems0 (Ix := Unit) (Name := ℕ) (U := UU) (Lvl := ℕ) (Val := Elt F) (τ := τ) osem c : sProp 𝕄)
    = (bigSep Finset.univ fun x : XK => semVal (kcell (c, some x)) 0) := rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (ringRd m ρ) κ (kcell (c, o))))
          ∗ (bigSep Finset.univ fun o => iprop(atPos ER (kcell (c, o)) 0 ∅ 0 ∗ reached ER (kcell (c, o)) 0)) ∗ toks (F := F) c) := by
  unfold G
  rw [ownSems0_eq, unscopedSems0_eq]
  iintro ⟨Hos, Hus, Hst, Hat, Htok⟩
  ihave Hv := (show iprop((semVal (kcell (c, none)) 0 : sProp 𝕄) ∗ bigSep Finset.univ fun x : XK => semVal (kcell (c, some x)) 0)
      ⊢ (bigSep Finset.univ fun o : Option XK => semVal (kcell (c, o)) 0 : sProp 𝕄) from Entails.of_eq (sep_option (F := F) fun o => semVal (kcell (c, o)) 0).symm) $$ [Hos Hus]
  · isplitl [Hus]; · iexact Hus
    iexact Hos
  imod (show iprop((bigSep Finset.univ fun o : Option XK => semVal (kcell (c, o)) 0) ∗ bigSep Finset.univ fun o : Option XK => roundState ER (ringRd m ρ) (kcell (c, o)) 0)
      ⊢ (|={Set.univ}=> bigSep Finset.univ fun o => iprop(∃ κ : ℕ, cellInv ER (ringRd m ρ) κ (kcell (c, o))) : sProp 𝕄) from by
        rw [← bigSep_sep']
        exact (bigSep_mono fun o _ => (Rounds.body_intro ER (ringRd m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: each token of a receive cell to the device that sends to it, each barrier token to the
    neighbour that signals. -/
theorem toks_around : (bigSep Finset.univ fun c : Dev nD => (toks c : sProp 𝕄)) ⊢ bigSep Finset.univ fun c : Dev nD => payToks c := by
  have hb (c : Dev nD) : (bigSep Finset.univ fun b : Bool => (dutyTok ER (barCell c) 0 b : sProp 𝕄)) = iprop(dutyTok ER (barCell c) 0 false ∗ dutyTok ER (barCell c) 0 true) := by
    rw [bigSep_univ_eq_bigSepL (I := Bool) [false, true] (by decide) (by decide), bigSepL_cons_cons, bigSepL_singleton]; rfl
  have hr : (bigSep Finset.univ fun c : Dev nD => bigSep Finset.univ fun k : CK => (dutyTok ER (kcell (c, some (true, k))) 0 false : sProp 𝕄))
      = (bigSep Finset.univ fun c : Dev nD => bigSep Finset.univ fun k : CK => (dutyTok ER (rcvCell k (toDev k.1 c)) 0 false : sProp 𝕄)) := by
    rw [bigSep_univ_comm, bigSep_univ_comm (fun (c : Dev nD) (k : CK) => (dutyTok ER (rcvCell k (toDev k.1 c)) 0 false : sProp 𝕄))]
    exact bigSep_congr fun k _ => bigSep_univ_equiv (ring k.1) (fun c : Dev nD => (dutyTok ER (rcvCell k c) 0 false : sProp 𝕄))
  unfold toks payToks
  simp only [hb, sep_XK]
  rw [bigSep_sep', bigSep_sep', bigSep_sep', bigSep_sep', bigSep_sep', bigSep_sep', hr,
    bigSep_univ_equiv (ring true) (fun c : Dev nD => (dutyTok ER (barCell c) 0 false : sProp 𝕄)),
    bigSep_univ_equiv (ring false) (fun c : Dev nD => (dutyTok ER (barCell c) 0 true : sProp 𝕄))]
  iintro H; iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option XK → ℕ) (c : Dev nD) : iprop(records m ρ K ∗ linear (F := F) c) ⊢ G' m ρ c := by
  unfold G'; iintro H; iexists K; iexact H

theorem regroup :
    (bigSep Finset.univ fun c : Dev nD => iprop((bigSep Finset.univ fun o => iprop(∃ κ : ℕ, cellInv ER (ringRd m ρ) κ (kcell (c, o))))
          ∗ (bigSep Finset.univ fun o => iprop(atPos ER (kcell (c, o)) 0 ∅ 0 ∗ reached ER (kcell (c, o)) 0)) ∗ toks (F := F) c) : sProp 𝕄)
      ⊢ bigSep Finset.univ (G' m ρ) := by
  rw [bigSep_sep', bigSep_sep', ← bigSep_univ_prod (fun ck : Dev nD × Option XK => iprop(∃ κ : ℕ, cellInv ER (ringRd m ρ) κ (kcell ck))),
    bigSep_congr (s := Finset.univ) (fun (c : Dev nD) _ => bigSep_sep' Finset.univ (fun o : Option XK => (atPos ER (kcell (c, o)) 0 ∅ 0 : sProp 𝕄)) (fun o => reached ER (kcell (c, o)) 0)),
    bigSep_sep', ← bigSep_univ_prod (fun ck : Dev nD × Option XK => (reached ER (kcell ck) 0 : sProp 𝕄))]
  iintro ⟨HI, ⟨Hat, #HR⟩, Htok⟩
  ihave HK := (BI.bigSep_exists_pi Finset.univ (fun (ck : Dev nD × Option XK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · unfold linear
    rw [bigSep_sep']
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem rcv_eq_iff {k k' : CK} {a b : Dev nD} : rcvCell k a = rcvCell k' b ↔ k = k' ∧ a = b := by
  constructor
  · intro h
    have h' := kcell_injective (a₁ := (a, some (true, k))) (a₂ := (b, some (true, k'))) h
    exact ⟨congrArg Prod.snd (Option.some.inj (congrArg Prod.snd h')), congrArg Prod.fst h'⟩
  · rintro ⟨rfl, rfl⟩; rfl
theorem bar_eq_iff {a b : Dev nD} : barCell a = barCell b ↔ a = b :=
  ⟨fun h => congrArg (fun g : GSem nD τ sig => g.1.1) h, fun h => h ▸ rfl⟩
theorem bar_ne_rcv (k : CK) (a b : Dev nD) : barCell a ≠ rcvCell k b := fun h => by cases congrArg Prod.snd h

theorem owed_apply (d : Dev nD) (g : GSem nD τ sig) : owed d 0 g () = ∑ k : CK, if g = rcvCell k (toDev k.1 d) then N else 0 := by
  unfold owed
  rw [Finset.filter_true_of_mem (fun _ _ => Nat.zero_le _), Finset.sum_apply, Finsupp.finset_sum_apply]
  refine Finset.sum_congr rfl fun k _ => ?_
  rw [tallyAt_apply]
  by_cases h : g = rcvCell k (toDev k.1 d)
  · rw [if_pos ⟨h, rfl⟩, if_pos h]
  · rw [if_neg fun h' => h h'.1, if_neg h]

theorem toDev_eq_iff (e : Bool) (c d : Dev nD) : c = toDev e d ↔ d = toDev (!e) c :=
  ⟨fun h => by rw [h, toDev_inv], fun h => by rw [h, toDev_inv']⟩

/-- What device `d` owes device `c`'s barrier cell; -/
theorem owes_bar (d c : Dev nD) : O₀ d (barCell c) () = (if d = toDev true c then 1 else 0) + (if d = toDev false c then 1 else 0) := by
  unfold O₀ O₁
  rw [Pi.add_apply, Finsupp.add_apply, Pi.add_apply, Finsupp.add_apply, owed_apply, Finset.sum_eq_zero (fun k _ => if_neg (bar_ne_rcv k c _)), tallyAt_apply, tallyAt_apply, Nat.zero_add]
  rw [if_congr (P := barCell c = barCell (toDev true d) ∧ () = ()) (Q := d = toDev false c) (by rw [bar_eq_iff, toDev_eq_iff]; exact and_iff_left rfl) rfl rfl,
    if_congr (P := barCell c = barCell (toDev false d) ∧ () = ()) (Q := d = toDev true c) (by rw [bar_eq_iff, toDev_eq_iff]; exact and_iff_left rfl) rfl rfl]
/-- its receive cells. -/
theorem owes_rcv (d c : Dev nD) (k : CK) : O₀ d (rcvCell k c) () = if d = toDev (!k.1) c then N else 0 := by
  unfold O₀ O₁
  rw [Pi.add_apply, Finsupp.add_apply, Pi.add_apply, Finsupp.add_apply, owed_apply, tallyAt_apply, tallyAt_apply,
    if_neg (fun h => bar_ne_rcv k _ c h.1.symm), if_neg (fun h => bar_ne_rcv k _ c h.1.symm), Nat.add_zero]
  rw [Finset.sum_eq_single k (fun k' _ hk => if_neg fun h => hk (rcv_eq_iff.mp h).1.symm) (fun h => absurd (Finset.mem_univ _) h)]
  have h : rcvCell k c = rcvCell k (toDev k.1 d) ↔ d = toDev (!k.1) c := by rw [rcv_eq_iff, toDev_eq_iff]; exact and_iff_right rfl
  by_cases hd : d = toDev (!k.1) c
  · rw [if_pos hd, if_pos (h.mpr hd)]
  · rw [if_neg hd, if_neg fun h' => hd (h.mp h')]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (toDev true c) fun _ => 1, Finset.sum_ite_eq' Finset.univ (toDev false c) fun _ => 1, if_pos (Finset.mem_univ _), if_pos (Finset.mem_univ _)]
theorem launch_rcv (c : Dev nD) (k : CK) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owes_rcv d c k, Finset.sum_ite_eq' Finset.univ (toDev (!k.1) c) fun _ => N,
    if_pos (Finset.mem_univ _)]

/-- The receive semaphores, apart from the barrier's. -/
def rcvLoc : CK ↪ SemLoc sig := ⟨fun k => osem (true, k), fun k k' h => congrArg Prod.snd (osem_inj h)⟩

theorem creds (c : Dev nD) :
    (Pipeline.launchCred O₀ c : sProp 𝕄) ⊢ iprop(cred (tallyAt (barCell c) () 2) ∗ (bigSep Finset.univ fun k : CK => cred (tallyAt (rcvCell k c) () N))) := by
  unfold Pipeline.launchCred
  rw [bigSep_univ_at _ (SemLoc.reg barS), launch_bar]
  refine sep_mono_right ?_
  refine (bigSep_subset (t := Finset.univ.map rcvLoc) fun x hx => ?_).trans ?_
  · obtain ⟨k, -, rfl⟩ := Finset.mem_map.mp hx
    exact Finset.mem_erase.mpr ⟨fun h : osem (true, k) = SemLoc.reg barS => (by cases h), Finset.mem_univ _⟩
  · rw [bigSep_map]
    exact bigSep_mono fun k _ => Entails.of_eq (congrArg cred (launch_rcv c k))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem sep_CK (Φ : CK → sProp 𝕄) : bigSep Finset.univ Φ
    = iprop((bigSep Finset.univ fun sb : Fin 15 × Fin 2 => Φ (false, sb)) ∗ bigSep Finset.univ fun sb : Fin 15 × Fin 2 => Φ (true, sb)) := by
  rw [bigSep_univ_prod Φ, bigSep_univ_eq_bigSepL (I := Bool) [false, true] (by decide) (by decide), bigSepL_cons_cons, bigSepL_singleton]; rfl

theorem stC_split (c : Dev nD) : (bigSep Finset.univ fun k : CK => stC (F := F) k c)
    ⊢ iprop((bigSep Finset.univ fun x : XK => semVal (kcell (c, some x)) 0)
      ∗ (bigSep Finset.univ fun sb : Fin 15 × Fin 2 => iprop(∃ f, slot (F := F) (false, sb) c f)) ∗ (bigSep Finset.univ fun sb : Fin 15 × Fin 2 => iprop(∃ f, slot (F := F) (true, sb) c f))) := by
  unfold stC
  rw [bigSep_sep', bigSep_sep', sep_XK, sep_CK (fun k : CK => iprop(∃ f, slot (F := F) k c f))]
  iintro ⟨H1, H2, H3, H4⟩
  isplitl [H1 H2]
  · isplitl [H1]; · iexact H1
    iexact H2
  isplitl [H3]; · iexact H3
  iexact H4

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨HzB, HC, Hh0, Hh1⟩
  ihave HC := (stC_split (F := F) c) $$ HC
  icases HC with ⟨Hz, Hl0, Hl1⟩
  isplitl [HzB]; · iexact HzB
  isplitl [Hz]; · iexact Hz
  isplitl [Hh0]; · iapply (snd_join (F := F) false c (m ((c : Thread nD τ).loc cc0_scratch0))); iexact Hh0
  isplitl [Hh1]; · iapply (snd_join (F := F) true c (m ((c : Thread nD τ).loc cc0_scratch1))); iexact Hh1
  isplitl [Hl0]; · iapply (com_join (F := F) false c (m ((c : Thread nD τ).loc cc0_scratch2))); iexact Hl0
  iapply (com_join (F := F) true c (m ((c : Thread nD τ).loc cc0_scratch3))); iexact Hl1

theorem ownSemFacts : Pipeline.OwnSemFacts cfg0.spec osem := ⟨by decide +kernel, osem_inj, by decide +kernel⟩
theorem share_eq (c : Dev nD) (w : Fin cfg0.W) : (dats m ρ 0 c).share w = fullShare := by unfold Dat.share; split <;> rfl

theorem mayWait_stage (c : Dev nD) (q : DmaSem sig) (hq : ∀ k : CK, SemLoc.dma q ≠ osem (true, k)) (O : CellTallies nD τ sig Unit) (hO : O = O₀ c ∨ O = 0) :
    (levAts L lv : sProp 𝕄) ⊢ MayWait (c : Thread nD τ) (.dma q) () O := by
  rcases hO with rfl | rfl
  · exact mayWait_of_lt c (.dma q) (O₀ c) 0 (Nat.le_of_eq (lv_other _ q hq ())) (fun g u hg => O₀_lv g u hg)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of sixteen devices, for any float values, from any memory with zero counters: every weakly fair execution of
    the program terminates, and every final state has each device's arrays at the computed contents and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.RingProof

end
-- ==== Proof.KIMain.lean ====
/-
The run read at the argument and result buffers: every device's result is the block the protocol computes.
-/
module

public import proofs.«01_k».proof.Proof.KILaunch

@[expose] public section

noncomputable section

namespace Cert.KernelIdeal.RingProof

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The argument arrays are inputs: after the run they hold what they held. -/
theorem finalA_arg0 (c : Dev nD) : finalA m ρ c (0 : Fin 3) = m ((c : Thread nD τ).loc main_arg0) := (dats m ρ 0 c).arrAt_in (0 : Fin 3) rfl _
theorem finalA_arg1 (c : Dev nD) : finalA m ρ c (1 : Fin 3) = m ((c : Thread nD τ).loc main_arg1) := (dats m ρ 0 c).arrAt_in (1 : Fin 3) rfl _

/-- Each window's one block is its whole array: reading it reads the array. -/
theorem read_blk0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_blk1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_blk2 (f : main_v1.ty.Contents (Elt F)) : (win0_2.blk (0 : Fin 1)).view.read (Elt F) f = f :=
  Memref.read_access_unit_zero (Elt F) main_v1 (funext fun a => by fin_cases a <;> decide) (fun a => by fin_cases a <;> decide) f

/-- The result array ends holding the block computed. -/
theorem finalA_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (read_blk2 _).symm.trans h

/-- The staged blocks are the device's arguments. -/
theorem xstg_eq (c : Dev nD) : xstg m ρ c = m ((c : Thread nD τ).loc main_arg0) := read_blk0 _
theorem gstg_eq (c : Dev nD) : gstg m ρ c = m ((c : Thread nD τ).loc main_arg1) := read_blk1 _

/-- On the mesh, for any float values, from any memory with zero counters: every weakly fair execution terminates with each
    device's result the block computed, its arguments unchanged, and every semaphore counter zero. -/
theorem run_vals : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (finalA_out m ρ c), (h.1 c (0 : Fin 3)).trans (finalA_arg0 m ρ c),
    (h.1 c (1 : Fin 3)).trans (finalA_arg1 m ρ c)⟩, h.2⟩) (run_main m ρ)

end Cert.KernelIdeal.RingProof

end
-- ==== Proof.KIValue.lean ====
/-
The value: over the extended reals, the block every device computes is its block of the reference's result.

The partial sums that travel round the ring add up, in the ring's order, the pieces of all sixteen devices; addition of
extended reals is commutative and associative, so the order does not matter. The mean square of a row is not negative,
so dividing by its root and multiplying by the reciprocal of its root agree.
-/
module

public import proofs.«01_k».proof.Proof.KIMain
public import proofs.«01_k».proof.Proof.Gen.ReferenceIdeal.Run
public import Idealize.ShloMosaic.Lib.Pointwise
public import Idealize.ShloMosaic.Lib.Layout

@[expose] public section

set_option maxRecDepth 16384
set_option backward.proofsInPublic true

noncomputable section

namespace Cert.KernelIdeal.RingProof

open Cert.KernelIdeal Cert.KernelIdeal.Gen
open Idealize.ShloMosaic Idealize.ShloMosaic.TcCoe Idealize.SL.Sem

/-! ## Extended reals -/

/-- Dividing by the root of a positive value is multiplying by the reciprocal root. -/
theorem div_sqrt (y v : EReal) (hv : 0 < v) : Ideal.div y (Ideal.sqrt v) = y * Ideal.rsqrt v := by
  induction v using EReal.rec with
  | bot => exact absurd hv (by simp)
  | top => simp [Ideal.div]
  | coe r =>
    have hr : 0 < r := EReal.coe_pos.mp hv
    have hs : (Real.sqrt r : EReal) ≠ 0 := by
      intro h; exact (Real.sqrt_pos.mpr hr).ne' (EReal.coe_eq_zero.mp h)
    rw [Ideal.sqrt_coe, if_neg hr.not_gt, Ideal.rsqrt_coe, if_neg hr.not_gt, if_neg hr.ne', Ideal.div, if_neg hs, EReal.coe_inv]

theorem sq_nonneg_ereal (x : EReal) : 0 ≤ x * x := by
  rcases le_total 0 x with h | h
  · exact mul_nonneg h h
  · have := mul_nonneg (EReal.neg_nonneg.mpr h) (EReal.neg_nonneg.mpr h)
    rwa [neg_mul_neg] at this

theorem ofBits_512 : Ideal.ofBits .f32 0x44000000#32 = ((512 : ℝ) : EReal) := by
  simp [Ideal.ofBits, Ideal.ieee, -EReal.coe_mul]; norm_num
theorem eps_pos : 0 < Ideal.ofBits .f32 0x358637BD#32 := by
  simp [Ideal.ofBits, Ideal.ieee, -EReal.coe_mul]

/-- A mean square plus the constant is positive. -/
theorem mean_pos (s : EReal) (hs : 0 ≤ s) : 0 < Ideal.div s (Ideal.ofBits .f32 0x44000000#32) + Ideal.ofBits .f32 0x358637BD#32 := by
  refine lt_of_lt_of_le eps_pos (le_add_of_nonneg_left ?_)
  rw [ofBits_512, Ideal.div, if_neg (by norm_num), ← EReal.coe_inv]
  exact mul_nonneg hs (EReal.coe_nonneg.mpr (by norm_num))

/-! ## The ring's order -/

/-- Going round the ring from any device meets every device once. -/
theorem orbit_inj : ∀ (e : Bool) (c : Dev nD), Function.Injective fun t : Fin 16 => (toDev e)^[t.val] c := by decide +kernel

/-- A sum in the ring's order is the sum over the devices. -/
theorem orbit_sum (e : Bool) (c : Dev nD) (f : Dev nD → EReal) : ∑ t ∈ Finset.range 16, f ((toDev e)^[t] c) = ∑ d : Dev nD, f d := by
  rw [Finset.sum_range fun t => f ((toDev e)^[t] c)]
  have hb : Function.Bijective fun t : Fin 16 => (toDev e)^[t.val] c := (Finite.injective_iff_bijective (α := Fin 16)).mp (orbit_inj e c)
  exact Fintype.sum_bijective _ hb _ _ fun _ => rfl

/-- The piece a device adds lies where the piece of the device behind it lay one step before; -/
theorem xOff_next : ∀ (e : Bool) (c : Dev nD) (s : Fin 15) (b : Fin 2), xOff e (toDev (!e) c) s.castSucc b = xOff e c s.succ b := by decide +kernel
/-- the last piece is the device's own rows. -/
theorem xOff_last : ∀ (e : Bool) (c : Dev nD) (b : Fin 2), xOff e c 15 b = ![0, 512 * c.val + 256 * b.val, 256 * e.toNat] := by decide +kernel

/-- Where an index of a piece lies in the device's block. -/
def pieceIdx (e : Bool) (c : Dev nD) (s : Fin 16) (b : Fin 2) (i : S1x256x256.Idx) : S1x8192x512.Idx := (xRect e c s b).toLoadRect.idx i

theorem pieceIdx_val (e : Bool) (c : Dev nD) (s : Fin 16) (b : Fin 2) (i : S1x256x256.Idx) (a : Fin 3) :
    (pieceIdx e c s b i a).val = xOff e c s b a + 1 * (i a).val := rfl

theorem pieceIdx_next (e : Bool) (c : Dev nD) (n : ℕ) (hn : n < 15) (b : Fin 2) (i : S1x256x256.Idx) :
    pieceIdx e (toDev (!e) c) (Fin.ofNat 16 n) b i = pieceIdx e c (Fin.ofNat 16 (n + 1)) b i := by
  have h := xOff_next e c ⟨n, hn⟩ b
  have h1 : (Fin.castSucc (⟨n, hn⟩ : Fin 15)) = Fin.ofNat 16 n := Fin.ext (by show n = n % 16; omega)
  have h2 : (Fin.succ (⟨n, hn⟩ : Fin 15)) = Fin.ofNat 16 (n + 1) := Fin.ext (by show n + 1 = (n + 1) % 16; omega)
  rw [h1, h2] at h
  funext a; apply Fin.ext
  rw [pieceIdx_val, pieceIdx_val, h]

variable (m : (ℓ : Loc nD τ sig) → Buf (Elt Ideal) ℓ) (ρ : Dev nD → PrngReg)

/-- Device `d`'s block of the operand. -/
def X (d : Dev nD) : S1x8192x512.Idx → EReal := m ((d : Thread nD τ).loc main_arg0)

theorem xblk_apply (e : Bool) (c : Dev nD) (s : Fin 16) (b : Fin 2) (i : S1x256x256.Idx) : xblk m ρ e c s b i = X m c (pieceIdx e c s b i) := by
  unfold xblk; rw [xstg_eq]; rfl

theorem firstV_apply (x : Vec Ideal S1x256x256 .f32) (i : S1x256x256.Idx) : firstV x i = x i := by
  pointwise [firstV, k0_pay1]
theorem addV_apply (v x : Vec Ideal S1x256x256 .f32) (i : S1x256x256.Idx) : addV v x i = (v i + x i : EReal) := by
  pointwise [addV, k0_pay5]

/-- The partial sum of step `n`: the pieces of the `n + 1` devices from `c` backwards. -/
theorem acc_apply (e : Bool) (b : Fin 2) : ∀ (n : ℕ), n < 16 → ∀ (c : Dev nD) (i : S1x256x256.Idx),
    acc m ρ e b n c i = ∑ t ∈ Finset.range (n + 1), X m ((toDev (!e))^[t] c) (pieceIdx e c (Fin.ofNat 16 n) b i)
  | 0, _, c, i => by
    unfold acc
    rw [firstV_apply, xblk_apply, Finset.sum_range_one]; rfl
  | n + 1, h, c, i => by
    unfold acc
    rw [addV_apply, xblk_apply, acc_apply e b n (by omega), pieceIdx_next e c n (by omega), Finset.sum_range_succ' _ (n + 1)]
    rfl

/-! ## The sum over the devices -/

/-- Row `i` of row half `b` of device `c`'s block, and column `j` of direction `e`'s half, in the whole result. -/
def row (c : Dev nD) (b : Fin 2) (i : Fin 256) : Fin 8192 := ⟨512 * c.val + 256 * b.val + i.val, by
  have h : c.val < 16 := c.isLt; have := b.isLt; have := i.isLt; omega⟩
def col (e : Bool) (j : Fin 256) : Fin 512 := ⟨256 * e.toNat + j.val, by
  have := j.isLt; have h1 : e.toNat < 2 := (by cases e <;> decide); omega⟩

/-- The sum over the devices at a row and a column. -/
def Y (A : (⟨3, ![16, 8192, 512]⟩ : Shape).Idx → EReal) (r : Fin 8192) (l : Fin 512) : EReal := ∑ d : Fin 16, A (ix3 d r l)

section
variable (A : (⟨3, ![16, 8192, 512]⟩ : Shape).Idx → EReal)
  (hA : ∀ d : Dev nD, X m d = Layout.block ⟨3, ![1, 8192, 512]⟩ ⟨3, ![16, 8192, 512]⟩ 0 16 d A)

include hA in
/-- What landed last plus the device's own piece is the sum over all devices. -/
theorem total (e : Bool) (c : Dev nD) (b : Fin 2) (i j : Fin 256) :
    (acc m ρ e b 14 (toDev (!e) c) (ix3 0 i j) + xblk m ρ e c 15 b (ix3 0 i j) : EReal) = Y A (row c b i) (col e j) := by
  have h : (acc m ρ e b 14 (toDev (!e) c) (ix3 0 i j) + xblk m ρ e c 15 b (ix3 0 i j) : EReal) = acc m ρ e b 15 c (ix3 0 i j) := by
    rw [show acc m ρ e b 15 c = addV (acc m ρ e b 14 (toDev (!e) c)) (xblk m ρ e c (Fin.ofNat 16 15) b) from rfl, addV_apply]; rfl
  rw [h, acc_apply m ρ e b 15 (by decide)]
  refine (orbit_sum (!e) c fun d => X m d (pieceIdx e c (Fin.ofNat 16 15) b (ix3 0 i j))).trans ?_
  unfold Y
  refine Finset.sum_congr rfl fun d _ => ?_
  rw [hA d, Layout.block_apply]
  refine congrArg A (funext fun a => Fin.ext ?_)
  rw [Layout.Tiles.idx_val]
  have hx : ∀ a : Fin 3, (pieceIdx e c (Fin.ofNat 16 15) b (ix3 0 i j) a).val = (![0, 512 * c.val + 256 * b.val, 256 * e.toNat] : Fin 3 → ℕ) a + 1 * (ix3 (0 : Fin 1) i j a).val := fun a => by
    rw [pieceIdx_val]; exact congrArg (fun f : Fin 3 → ℕ => f a + _) (xOff_last e c b)
  fin_cases a
  · refine (if_pos rfl).trans ?_
    show d.val * 1 + (pieceIdx e c (Fin.ofNat 16 15) b (ix3 0 i j) 0).val = d.val
    rw [hx]; show d.val * 1 + (0 + 1 * 0) = d.val; omega
  · refine (if_neg (by decide)).trans ?_
    show (pieceIdx e c (Fin.ofNat 16 15) b (ix3 0 i j) 1).val = (row c b i).val
    rw [hx]; show 512 * c.val + 256 * b.val + 1 * i.val = 512 * c.val + 256 * b.val + i.val; omega
  · refine (if_neg (by decide)).trans ?_
    show (pieceIdx e c (Fin.ofNat 16 15) b (ix3 0 i j) 2).val = (col e j).val
    rw [hx]; show 256 * e.toNat + 1 * j.val = 256 * e.toNat + j.val; omega

end

/-! ## The kernel's last step at an index -/

/-- The reciprocal root mean square of a row given as two halves. -/
def invRms (p q : Fin 256 → EReal) : EReal :=
  Ideal.rsqrt (Ideal.div ((∑ k, p k * p k) + ∑ k, q k * q k) (Ideal.ofBits .f32 0x44000000#32) + Ideal.ofBits .f32 0x358637BD#32)

theorem outR_apply (vr xr vl xl : Vec Ideal S1x256x256 .f32) (g : Vec Ideal S512 .f32) (i j : Fin 256) :
    outR vr xr vl xl g (ix2 i j) = ((vr (ix3 0 i j) + xr (ix3 0 i j)) * invRms (fun k => vr (ix3 0 i k) + xr (ix3 0 i k)) (fun k => vl (ix3 0 i k) + xl (ix3 0 i k))
      * g (ix1 (col false j)) : EReal) := by
  rw [show col false j = ⟨j.val, by have := j.isLt; omega⟩ from Fin.ext (Nat.zero_add _)]
  unfold invRms
  pointwise [outR, k0_pay76, k0_pay75, k0_pay74, k0_pay73, k0_pay72]

theorem outL_apply (vr xr vl xl : Vec Ideal S1x256x256 .f32) (g : Vec Ideal S512 .f32) (i j : Fin 256) :
    outL vr xr vl xl g (ix2 i j) = ((vl (ix3 0 i j) + xl (ix3 0 i j)) * invRms (fun k => vr (ix3 0 i k) + xr (ix3 0 i k)) (fun k => vl (ix3 0 i k) + xl (ix3 0 i k))
      * g (ix1 (col true j)) : EReal) := by
  unfold invRms col
  pointwise [outL, k0_pay77, k0_pay75, k0_pay74, k0_pay73, k0_pay72]
  rfl

theorem gval_apply (c : Dev nD) (l : Fin 512) : gval m ρ c (ix1 l) = m ((c : Thread nD τ).loc main_arg1) (ix1 l) := by
  unfold gval; rw [gstg_eq]
  refine congrArg (m ((c : Thread nD τ).loc main_arg1)) (funext fun a => Fin.ext ?_)
  fin_cases a
  show 0 + 1 * l.val = l.val; omega

/-! ## The reference at an index -/

/-- The reference's result as a function of its arguments. -/
def refOut (A : (⟨3, ![16, 8192, 512]⟩ : Shape).Idx → EReal) (G : (⟨1, ![512]⟩ : Shape).Idx → EReal) : (⟨2, ![8192, 512]⟩ : Shape).Idx → EReal := fun i =>
  Ideal.div (Y A (i 0) (i 1)) (Ideal.sqrt (Ideal.div (∑ k : Fin 512, Y A (i 0) k * Y A (i 0) k) (Ideal.ofBits .f32 0x44000000#32) + Ideal.ofBits .f32 0x358637BD#32))
    * G (ix1 (i 1))

/-- A sum over the columns is the sum over both halves. -/
theorem sum_cols (f : Fin 512 → EReal) : ∑ k, f k = (∑ k, f (col false k)) + ∑ k, f (col true k) := by
  refine (Fin.sum_univ_add (a := 256) (b := 256) f).trans ?_
  refine congrArg₂ (· + ·) (Finset.sum_congr rfl fun k _ => congrArg f (Fin.ext ?_)) (Finset.sum_congr rfl fun k _ => congrArg f (Fin.ext ?_))
  · exact (Nat.zero_add _).symm
  · rfl

/-- The reference divides by the root; multiplying by the reciprocal root of the two halves' squares is the same. -/
theorem refOut_apply (A : (⟨3, ![16, 8192, 512]⟩ : Shape).Idx → EReal) (G : (⟨1, ![512]⟩ : Shape).Idx → EReal) (r : Fin 8192) (l : Fin 512) :
    refOut A G (ix2 r l) = Y A r l * invRms (fun k => Y A r (col false k)) (fun k => Y A r (col true k)) * G (ix1 l) := by
  have h : refOut A G (ix2 r l) = Ideal.div (Y A r l) (Ideal.sqrt (Ideal.div (∑ k : Fin 512, Y A r k * Y A r k) (Ideal.ofBits .f32 0x44000000#32) + Ideal.ofBits .f32 0x358637BD#32))
      * G (ix1 l) := rfl
  rw [h, div_sqrt _ _ (mean_pos _ (Finset.sum_nonneg fun k _ => sq_nonneg_ereal _)), sum_cols]
  rfl

/-- Every device's computed block is its block of the reference's result. -/
theorem outAt_eq (A : (⟨3, ![16, 8192, 512]⟩ : Shape).Idx → EReal) (G : (⟨1, ![512]⟩ : Shape).Idx → EReal)
    (hA : ∀ d : Dev nD, X m d = Layout.block ⟨3, ![1, 8192, 512]⟩ ⟨3, ![16, 8192, 512]⟩ 0 16 d A)
    (hG : ∀ d : Dev nD, m ((d : Thread nD τ).loc main_arg1) = G) (c : Dev nD) :
    outAt m ρ c = Layout.block ⟨2, ![512, 512]⟩ ⟨2, ![8192, 512]⟩ 0 16 c (refOut A G) := by
  funext i
  have hi0 : (i 0).val < 512 := (i 0).isLt
  have hi1 : (i 1).val < 512 := (i 1).isLt
  have hp : qPos i = ix2 (⟨(i 0).val % 256, Nat.mod_lt _ (by decide)⟩ : Fin 256) (⟨(i 1).val % 256, Nat.mod_lt _ (by decide)⟩ : Fin 256) := by
    funext a; fin_cases a <;> rfl
  have hcol (e : Bool) (he : (i 1).val / 256 = e.toNat) :
      (by decide : Layout.Tiles ⟨2, ![512, 512]⟩ ⟨2, ![8192, 512]⟩ 0 16).idx c i
        = ix2 (row c (qRow i) ⟨(i 0).val % 256, Nat.mod_lt _ (by decide)⟩) (col e ⟨(i 1).val % 256, Nat.mod_lt _ (by decide)⟩) := by
    funext a; apply Fin.ext
    fin_cases a
    · show c.val * 512 + (i 0).val = 512 * c.val + 256 * ((i 0).val / 256) + (i 0).val % 256; omega
    · show (i 1).val = 256 * e.toNat + (i 1).val % 256; omega
  have hTr := total m ρ A hA false c (qRow i)
  have hTl := total m ρ A hA true c (qRow i)
  simp only [Bool.not_true, Bool.not_false] at hTr hTl
  show quarter m ρ c (qRow i) (qCol i) (qPos i) = refOut A G _
  rw [hp]
  unfold quarter
  by_cases hq : qCol i = 0
  · have he : (i 1).val / 256 = false.toNat := congrArg Fin.val hq
    rw [if_pos hq, hcol false he, refOut_apply, outR_apply, gval_apply, hG]
    simp only [hTr, hTl]
  · have he : (i 1).val / 256 = true.toNat := by
      have h1 : (i 1).val / 256 ≠ 0 := fun h => hq (Fin.ext h)
      show (i 1).val / 256 = 1; omega
    rw [if_neg hq, hcol true he, refOut_apply, outL_apply, gval_apply, hG]
    simp only [hTr, hTl]

/-- The reference's run: its result ends holding `refOut` of its arguments, which end unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v13)
        = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) := by
  refine (θ_run Cert.ReferenceIdeal.defs _ _).mono (fun r h c => ⟨(h c).1.trans ?_, (h c).2⟩) (Cert.ReferenceIdeal.Value.run (F := Ideal) m' ρ')
  funext i
  idx_vars i
  unfold refOut Y
  pointwise

end Cert.KernelIdeal.RingProof

end
-- ==== Proof.lean ====
/-
The certificate's claims: the kernel and its idealization run, leave their arguments as they were and every semaphore counter
at zero, and over the extended reals each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KMain
public import proofs.«01_k».proof.Proof.KIValue
public import Idealize.ShloMosaic.Adequacy
public import Idealize.ShloMosaic.Init

@[expose] public section

noncomputable section

namespace Cert.Proof

open Idealize.ShloMosaic Idealize.SL.Sem Cert.Kernel

/-- The kernel terminates on the mesh with its arguments unchanged and every semaphore counter at zero. -/
theorem frame_kernel : Cert.quiescent_Kernel := fun m ρ _ =>
  (θ_run Cert.Kernel.defs _ _).mono (fun _ h => ⟨fun c => (h.1 c).2, h.2⟩) (Cert.Kernel.RingProof.run_vals (F := Bits) m ρ)

/-- So does its idealization. -/
theorem frame_ideal : Cert.quiescent_KernelIdeal := fun m ρ _ =>
  (θ_run Cert.KernelIdeal.defs _ _).mono (fun _ h => ⟨fun c => (h.1 c).2, h.2⟩) (Cert.KernelIdeal.RingProof.run_vals (F := Ideal) m ρ)

/-- The reference terminates with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.KernelIdeal.RingProof.ref_run m ρ)

/-- Each device's result is its block of the reference's result, over the extended reals. -/
theorem value : Cert.algebraic_KernelIdeal_ReferenceIdeal := by
  intro m ρ m' ρ' _ hin
  refine ⟨Cert.KernelIdeal.RingProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.KernelIdeal.RingProof.outAt_eq m ρ _ _ (fun d => (hin d).1) (fun d => (hin d).2) c), (h.1 c).2⟩)
      (Cert.KernelIdeal.RingProof.run_vals (F := Ideal) m ρ)
  · exact (θ_run Cert.ReferenceIdeal.defs _ _).mono (fun _ h => h 0) (Cert.KernelIdeal.RingProof.ref_run m' ρ')

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
